-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S1 : Shape := ⟨1, ![1]⟩
abbrev S4096x2048 : Shape := ⟨2, ![4096, 2048]⟩
abbrev S4x3x512x512 : Shape := ⟨4, ![4, 3, 512, 512]⟩
abbrev S4x14 : Shape := ⟨2, ![4, 14]⟩
abbrev S4 : Shape := ⟨1, ![4]⟩
abbrev S512x512 : Shape := ⟨2, ![512, 512]⟩
abbrev S_ : Shape := ⟨0, ![]⟩
abbrev S1x1x512x512 : Shape := ⟨4, ![1, 1, 512, 512]⟩
abbrev S1x1 : Shape := ⟨2, ![1, 1]⟩

abbrev nBuf : Space → Nat
  | .hbm => 5
  | .vmem => 6
  | .smem => 2
  | _ => 0

abbrev bufTy : (tb : Table) → Fin (tcTables nBuf tb) → BufTy
  | .hbm, ⟨0, _⟩ => ⟨S4096x512, .fp8e4m3⟩
  | .hbm, ⟨1, _⟩ => ⟨S512x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x512, .fp8e4m3⟩
  | .local _ .vmem, ⟨1, _⟩ => ⟨S512x2048, .fp8e4m3⟩
  | .local _ .vmem, ⟨2, _⟩ => ⟨S4096x2048, .f32⟩
  | .local _ .vmem, ⟨3, _⟩ => ⟨S512x2048, .bf16⟩
  | .local _ .vmem, ⟨4, _⟩ => ⟨S4x3x512x512, .bf16⟩
  | .local _ .vmem, ⟨5, _⟩ => ⟨S4x3x512x512, .bf16⟩
  | .local _ .smem, ⟨0, _⟩ => ⟨S1, .f32⟩
  | .local _ .smem, ⟨1, _⟩ => ⟨S1, .f32⟩
  | _, _ => ⟨S4096x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  (ofTc nBuf bufTy 5 117 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 8
abbrev τ : Topo := Topo.v7x

variable {F : FTy → Type} [FloatOps F]

abbrev grid0 : Pipeline.Grid := .none

def k0_off1 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v23 : BitVec 32 := Scalar.addi v5 c0_i32
  let c32_i32 : BitVec 32 := 32#32
  let v24 : BitVec 32 := Scalar.addi v23 c32_i32
  let c8_i32_12 : BitVec 32 := 8#32
  let v25 : BitVec 32 := Scalar.remsi v24 c8_i32_12
  let c512_i32 : BitVec 32 := 512#32
  let v26 : BitVec 32 := Scalar.muli v25 c512_i32
  let v27 : Index := Scalar.indexCast v26
  let c0_13 : Index := 0#32
  ![v27.toNat, 0]
def k0_off1_at (r : Fin 8) : BitVec 32 :=
  if r.val < 4 then
    if r.val < 2 then
      if r.val < 1 then
        0#32
      else
        4294967295#32
    else
      if r.val < 3 then
        1#32
      else
        4294967294#32
  else
    if r.val < 6 then
      if r.val < 5 then
        2#32
      else
        4294967293#32
    else
      if r.val < 7 then
        3#32
      else
        4#32
def k0_off2 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v23 : BitVec 32 := Scalar.addi v5 c0_i32
  let c32_i32 : BitVec 32 := 32#32
  let v24 : BitVec 32 := Scalar.addi v23 c32_i32
  let c8_i32_12 : BitVec 32 := 8#32
  let v25 : BitVec 32 := Scalar.remsi v24 c8_i32_12
  let c512_i32_16 : BitVec 32 := 512#32
  let v33 : BitVec 32 := Scalar.muli v25 c512_i32_16
  let v34 : Index := Scalar.indexCast v33
  let c0_17 : Index := 0#32
  ![v34.toNat, 0]
def k0_off2_at (r : Fin 8) : BitVec 32 :=
  if r.val < 4 then
    if r.val < 2 then
      if r.val < 1 then
        0#32
      else
        4294967295#32
    else
      if r.val < 3 then
        1#32
      else
        4294967294#32
  else
    if r.val < 6 then
      if r.val < 5 then
        2#32
      else
        4294967293#32
    else
      if r.val < 7 then
        3#32
      else
        4#32
def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_19 : BitVec 32 := 1#32
  let v37 : BitVec 32 := Scalar.muli v11 c1_i32_19
  let v38 : BitVec 32 := Scalar.addi c0_i32_20 v37
  v38.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_22 : BitVec 32 := 1#32
  let v39 : BitVec 32 := Scalar.muli v16 c1_i32_22
  let v40 : BitVec 32 := Scalar.addi c0_i32_23 v39
  v40.toNat
def k0_off3 (d0 : Dev nD) (c0_i32_24 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v41 : BitVec 32 := Scalar.addi v5 c0_i32_24
  let c32_i32_25 : BitVec 32 := 32#32
  let v42 : BitVec 32 := Scalar.addi v41 c32_i32_25
  let c8_i32_26 : BitVec 32 := 8#32
  let v43 : BitVec 32 := Scalar.remsi v42 c8_i32_26
  let c512_i32_27 : BitVec 32 := 512#32
  let v44 : BitVec 32 := Scalar.muli v43 c512_i32_27
  let v45 : Index := Scalar.indexCast v44
  let c0_28 : Index := 0#32
  ![v45.toNat, 0]
def k0_off3_at (r : Fin 8) : BitVec 32 :=
  if r.val < 4 then
    if r.val < 2 then
      if r.val < 1 then
        0#32
      else
        4294967295#32
    else
      if r.val < 3 then
        4294967294#32
      else
        4294967293#32
  else
    if r.val < 6 then
      if r.val < 5 then
        4294967292#32
      else
        4294967291#32
    else
      if r.val < 7 then
        4294967290#32
      else
        4294967289#32
def k0_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_41 : BitVec 32 := 1#32
  let v52 : BitVec 32 := Scalar.muli v16 c1_i32_41
  let v53 : BitVec 32 := Scalar.addi c0_i32_42 v52
  v53.toNat
def k0_off4 (d0 : Dev nD) (c0_i32_47 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v62 : BitVec 32 := Scalar.addi v5 c0_i32_47
  let c32_i32_48 : BitVec 32 := 32#32
  let v63 : BitVec 32 := Scalar.addi v62 c32_i32_48
  let c8_i32_49 : BitVec 32 := 8#32
  let v64 : BitVec 32 := Scalar.remsi v63 c8_i32_49
  let c512_i32_50 : BitVec 32 := 512#32
  let v65 : BitVec 32 := Scalar.muli v64 c512_i32_50
  let v66 : Index := Scalar.indexCast v65
  let c1024 : Index := 1024#32
  ![v66.toNat, 1024]
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_62 : BitVec 32 := 1#32
  let v73 : BitVec 32 := Scalar.muli v11 c1_i32_62
  let v74 : BitVec 32 := Scalar.addi c0_i32_63 v73
  v74.toNat
def k0_off5 (d0 : Dev nD) (c0_i32_68 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v83 : BitVec 32 := Scalar.addi v5 c0_i32_68
  let c32_i32_69 : BitVec 32 := 32#32
  let v84 : BitVec 32 := Scalar.addi v83 c32_i32_69
  let c8_i32_70 : BitVec 32 := 8#32
  let v85 : BitVec 32 := Scalar.remsi v84 c8_i32_70
  let c512_i32_71 : BitVec 32 := 512#32
  let v86 : BitVec 32 := Scalar.muli v85 c512_i32_71
  let v87 : Index := Scalar.indexCast v86
  let c512 : Index := 512#32
  ![v87.toNat, 512]
def k0_off5_at (r : Fin 8) : BitVec 32 :=
  if r.val < 4 then
    if r.val < 2 then
      if r.val < 1 then
        0#32
      else
        4294967295#32
    else
      if r.val < 3 then
        4294967294#32
      else
        4294967293#32
  else
    if r.val < 6 then
      if r.val < 5 then
        4294967292#32
      else
        4294967291#32
    else
      if r.val < 7 then
        4294967290#32
      else
        4294967289#32
def k0_dev5 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_83 : BitVec 32 := 1#32
  let v94 : BitVec 32 := Scalar.muli v16 c1_i32_83
  let v95 : BitVec 32 := Scalar.addi c0_i32_84 v94
  v95.toNat
def k0_off6 (d0 : Dev nD) (c0_i32_89 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v104 : BitVec 32 := Scalar.addi v5 c0_i32_89
  let c32_i32_90 : BitVec 32 := 32#32
  let v105 : BitVec 32 := Scalar.addi v104 c32_i32_90
  let c8_i32_91 : BitVec 32 := 8#32
  let v106 : BitVec 32 := Scalar.remsi v105 c8_i32_91
  let c512_i32_92 : BitVec 32 := 512#32
  let v107 : BitVec 32 := Scalar.muli v106 c512_i32_92
  let v108 : Index := Scalar.indexCast v107
  let c1536 : Index := 1536#32
  ![v108.toNat, 1536]
def k0_dev6 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_103 : BitVec 32 := 1#32
  let v115 : BitVec 32 := Scalar.muli v11 c1_i32_103
  let v116 : BitVec 32 := Scalar.addi c0_i32_104 v115
  v116.toNat
def k0_dev7 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_166 : BitVec 32 := 1#32
  let v178 : BitVec 32 := Scalar.muli v11 c1_i32_166
  let v179 : BitVec 32 := Scalar.addi c0_i32_167 v178
  v179.toNat
def k0_dev8 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_180 : BitVec 32 := 1#32
  let v184 : BitVec 32 := Scalar.muli v16 c1_i32_180
  let v185 : BitVec 32 := Scalar.addi c0_i32_181 v184
  v185.toNat
def k0_dev9 (d0 : Dev nD) : Nat :=
  let c0_i32_225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_224 : BitVec 32 := 1#32
  let v221 : BitVec 32 := Scalar.muli v16 c1_i32_224
  let v222 : BitVec 32 := Scalar.addi c0_i32_225 v221
  v222.toNat
def k0_dev10 (d0 : Dev nD) : Nat :=
  let c0_i32_239 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_238 : BitVec 32 := 1#32
  let v227 : BitVec 32 := Scalar.muli v11 c1_i32_238
  let v228 : BitVec 32 := Scalar.addi c0_i32_239 v227
  v228.toNat
def k0_dev11 (d0 : Dev nD) : Nat :=
  let c0_i32_283 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_282 : BitVec 32 := 1#32
  let v264 : BitVec 32 := Scalar.muli v11 c1_i32_282
  let v265 : BitVec 32 := Scalar.addi c0_i32_283 v264
  v265.toNat
def k0_dev12 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_296 : BitVec 32 := 1#32
  let v270 : BitVec 32 := Scalar.muli v16 c1_i32_296
  let v271 : BitVec 32 := Scalar.addi c0_i32_297 v270
  v271.toNat
def k0_dev13 (d0 : Dev nD) : Nat :=
  let c0_i32_341 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_340 : BitVec 32 := 1#32
  let v307 : BitVec 32 := Scalar.muli v16 c1_i32_340
  let v308 : BitVec 32 := Scalar.addi c0_i32_341 v307
  v308.toNat
def k0_dev14 (d0 : Dev nD) : Nat :=
  let c0_i32_355 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_354 : BitVec 32 := 1#32
  let v313 : BitVec 32 := Scalar.muli v11 c1_i32_354
  let v314 : BitVec 32 := Scalar.addi c0_i32_355 v313
  v314.toNat
def k0_dev15 (d0 : Dev nD) : Nat :=
  let c0_i32_418 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_417 : BitVec 32 := 1#32
  let v376 : BitVec 32 := Scalar.muli v11 c1_i32_417
  let v377 : BitVec 32 := Scalar.addi c0_i32_418 v376
  v377.toNat
def k0_dev16 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_431 : BitVec 32 := 1#32
  let v382 : BitVec 32 := Scalar.muli v16 c1_i32_431
  let v383 : BitVec 32 := Scalar.addi c0_i32_432 v382
  v383.toNat
def k0_dev17 (d0 : Dev nD) : Nat :=
  let c0_i32_476 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_475 : BitVec 32 := 1#32
  let v419 : BitVec 32 := Scalar.muli v16 c1_i32_475
  let v420 : BitVec 32 := Scalar.addi c0_i32_476 v419
  v420.toNat
def k0_dev18 (d0 : Dev nD) : Nat :=
  let c0_i32_490 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_489 : BitVec 32 := 1#32
  let v425 : BitVec 32 := Scalar.muli v11 c1_i32_489
  let v426 : BitVec 32 := Scalar.addi c0_i32_490 v425
  v426.toNat
def k0_dev19 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_533 : BitVec 32 := 1#32
  let v462 : BitVec 32 := Scalar.muli v11 c1_i32_533
  let v463 : BitVec 32 := Scalar.addi c0_i32_534 v462
  v463.toNat
def k0_dev20 (d0 : Dev nD) : Nat :=
  let c0_i32_548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_547 : BitVec 32 := 1#32
  let v468 : BitVec 32 := Scalar.muli v16 c1_i32_547
  let v469 : BitVec 32 := Scalar.addi c0_i32_548 v468
  v469.toNat
def k0_dev21 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_591 : BitVec 32 := 1#32
  let v505 : BitVec 32 := Scalar.muli v16 c1_i32_591
  let v506 : BitVec 32 := Scalar.addi c0_i32_592 v505
  v506.toNat
def k0_dev22 (d0 : Dev nD) : Nat :=
  let c0_i32_606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_605 : BitVec 32 := 1#32
  let v511 : BitVec 32 := Scalar.muli v11 c1_i32_605
  let v512 : BitVec 32 := Scalar.addi c0_i32_606 v511
  v512.toNat
def k0_dev23 (d0 : Dev nD) : Nat :=
  let c0_i32_669 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_668 : BitVec 32 := 1#32
  let v574 : BitVec 32 := Scalar.muli v11 c1_i32_668
  let v575 : BitVec 32 := Scalar.addi c0_i32_669 v574
  v575.toNat
def k0_dev24 (d0 : Dev nD) : Nat :=
  let c0_i32_686 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_685 : BitVec 32 := 1#32
  let v582 : BitVec 32 := Scalar.muli v16 c1_i32_685
  let v583 : BitVec 32 := Scalar.addi c0_i32_686 v582
  v583.toNat
def k0_dev25 (d0 : Dev nD) : Nat :=
  let c0_i32_730 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_729 : BitVec 32 := 1#32
  let v619 : BitVec 32 := Scalar.muli v16 c1_i32_729
  let v620 : BitVec 32 := Scalar.addi c0_i32_730 v619
  v620.toNat
def k0_dev26 (d0 : Dev nD) : Nat :=
  let c0_i32_747 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_746 : BitVec 32 := 1#32
  let v627 : BitVec 32 := Scalar.muli v11 c1_i32_746
  let v628 : BitVec 32 := Scalar.addi c0_i32_747 v627
  v628.toNat
def k0_dev27 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_790 : BitVec 32 := 1#32
  let v664 : BitVec 32 := Scalar.muli v11 c1_i32_790
  let v665 : BitVec 32 := Scalar.addi c0_i32_791 v664
  v665.toNat
def k0_dev28 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_807 : BitVec 32 := 1#32
  let v672 : BitVec 32 := Scalar.muli v16 c1_i32_807
  let v673 : BitVec 32 := Scalar.addi c0_i32_808 v672
  v673.toNat
def k0_dev29 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_851 : BitVec 32 := 1#32
  let v709 : BitVec 32 := Scalar.muli v16 c1_i32_851
  let v710 : BitVec 32 := Scalar.addi c0_i32_852 v709
  v710.toNat
def k0_dev30 (d0 : Dev nD) : Nat :=
  let c0_i32_869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_868 : BitVec 32 := 1#32
  let v717 : BitVec 32 := Scalar.muli v11 c1_i32_868
  let v718 : BitVec 32 := Scalar.addi c0_i32_869 v717
  v718.toNat
def k0_dev31 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_921 : BitVec 32 := 1#32
  let v767 : BitVec 32 := Scalar.muli v11 c1_i32_921
  let v768 : BitVec 32 := Scalar.addi c0_i32_922 v767
  v768.toNat
def k0_dev32 (d0 : Dev nD) : Nat :=
  let c0_i32_939 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_938 : BitVec 32 := 1#32
  let v775 : BitVec 32 := Scalar.muli v16 c1_i32_938
  let v776 : BitVec 32 := Scalar.addi c0_i32_939 v775
  v776.toNat
def k0_dev33 (d0 : Dev nD) : Nat :=
  let c0_i32_983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_982 : BitVec 32 := 1#32
  let v812 : BitVec 32 := Scalar.muli v16 c1_i32_982
  let v813 : BitVec 32 := Scalar.addi c0_i32_983 v812
  v813.toNat
def k0_dev34 (d0 : Dev nD) : Nat :=
  let c0_i32_1000 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_999 : BitVec 32 := 1#32
  let v820 : BitVec 32 := Scalar.muli v11 c1_i32_999
  let v821 : BitVec 32 := Scalar.addi c0_i32_1000 v820
  v821.toNat
def k0_dev35 (d0 : Dev nD) : Nat :=
  let c0_i32_1044 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1043 : BitVec 32 := 1#32
  let v857 : BitVec 32 := Scalar.muli v11 c1_i32_1043
  let v858 : BitVec 32 := Scalar.addi c0_i32_1044 v857
  v858.toNat
def k0_dev36 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1060 : BitVec 32 := 1#32
  let v865 : BitVec 32 := Scalar.muli v16 c1_i32_1060
  let v866 : BitVec 32 := Scalar.addi c0_i32_1061 v865
  v866.toNat
def k0_dev37 (d0 : Dev nD) : Nat :=
  let c0_i32_1105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1104 : BitVec 32 := 1#32
  let v902 : BitVec 32 := Scalar.muli v16 c1_i32_1104
  let v903 : BitVec 32 := Scalar.addi c0_i32_1105 v902
  v903.toNat
def k0_dev38 (d0 : Dev nD) : Nat :=
  let c0_i32_1122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1121 : BitVec 32 := 1#32
  let v910 : BitVec 32 := Scalar.muli v11 c1_i32_1121
  let v911 : BitVec 32 := Scalar.addi c0_i32_1122 v910
  v911.toNat
def k0_dev39 (d0 : Dev nD) : Nat :=
  let c0_i32_1165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1164 : BitVec 32 := 1#32
  let v947 : BitVec 32 := Scalar.muli v11 c1_i32_1164
  let v948 : BitVec 32 := Scalar.addi c0_i32_1165 v947
  v948.toNat
def k0_dev40 (d0 : Dev nD) : Nat :=
  let c0_i32_1181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1180 : BitVec 32 := 1#32
  let v955 : BitVec 32 := Scalar.muli v16 c1_i32_1180
  let v956 : BitVec 32 := Scalar.addi c0_i32_1181 v955
  v956.toNat
def k0_dev41 (d0 : Dev nD) : Nat :=
  let c0_i32_1225 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1224 : BitVec 32 := 1#32
  let v992 : BitVec 32 := Scalar.muli v16 c1_i32_1224
  let v993 : BitVec 32 := Scalar.addi c0_i32_1225 v992
  v993.toNat
def k0_dev42 (d0 : Dev nD) : Nat :=
  let c0_i32_1242 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1241 : BitVec 32 := 1#32
  let v1000 : BitVec 32 := Scalar.muli v11 c1_i32_1241
  let v1001 : BitVec 32 := Scalar.addi c0_i32_1242 v1000
  v1001.toNat
def k0_dev43 (d0 : Dev nD) : Nat :=
  let c0_i32_1286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1285 : BitVec 32 := 1#32
  let v1037 : BitVec 32 := Scalar.muli v11 c1_i32_1285
  let v1038 : BitVec 32 := Scalar.addi c0_i32_1286 v1037
  v1038.toNat
def k0_dev44 (d0 : Dev nD) : Nat :=
  let c0_i32_1303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1302 : BitVec 32 := 1#32
  let v1045 : BitVec 32 := Scalar.muli v16 c1_i32_1302
  let v1046 : BitVec 32 := Scalar.addi c0_i32_1303 v1045
  v1046.toNat
def k0_dev45 (d0 : Dev nD) : Nat :=
  let c0_i32_1347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1346 : BitVec 32 := 1#32
  let v1082 : BitVec 32 := Scalar.muli v16 c1_i32_1346
  let v1083 : BitVec 32 := Scalar.addi c0_i32_1347 v1082
  v1083.toNat
def k0_dev46 (d0 : Dev nD) : Nat :=
  let c0_i32_1364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1363 : BitVec 32 := 1#32
  let v1090 : BitVec 32 := Scalar.muli v11 c1_i32_1363
  let v1091 : BitVec 32 := Scalar.addi c0_i32_1364 v1090
  v1091.toNat
def k0_dev47 (d0 : Dev nD) : Nat :=
  let c0_i32_1407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1406 : BitVec 32 := 1#32
  let v1127 : BitVec 32 := Scalar.muli v11 c1_i32_1406
  let v1128 : BitVec 32 := Scalar.addi c0_i32_1407 v1127
  v1128.toNat
def k0_dev48 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1422 : BitVec 32 := 1#32
  let v1135 : BitVec 32 := Scalar.muli v16 c1_i32_1422
  let v1136 : BitVec 32 := Scalar.addi c0_i32_1423 v1135
  v1136.toNat
def k0_dev49 (d0 : Dev nD) : Nat :=
  let c0_i32_1467 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1466 : BitVec 32 := 1#32
  let v1172 : BitVec 32 := Scalar.muli v16 c1_i32_1466
  let v1173 : BitVec 32 := Scalar.addi c0_i32_1467 v1172
  v1173.toNat
def k0_dev50 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1483 : BitVec 32 := 1#32
  let v1180 : BitVec 32 := Scalar.muli v11 c1_i32_1483
  let v1181 : BitVec 32 := Scalar.addi c0_i32_1484 v1180
  v1181.toNat
def k0_dev51 (d0 : Dev nD) : Nat :=
  let c0_i32_1528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1527 : BitVec 32 := 1#32
  let v1217 : BitVec 32 := Scalar.muli v11 c1_i32_1527
  let v1218 : BitVec 32 := Scalar.addi c0_i32_1528 v1217
  v1218.toNat
def k0_dev52 (d0 : Dev nD) : Nat :=
  let c0_i32_1545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1544 : BitVec 32 := 1#32
  let v1225 : BitVec 32 := Scalar.muli v16 c1_i32_1544
  let v1226 : BitVec 32 := Scalar.addi c0_i32_1545 v1225
  v1226.toNat
def k0_dev53 (d0 : Dev nD) : Nat :=
  let c0_i32_1589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1588 : BitVec 32 := 1#32
  let v1262 : BitVec 32 := Scalar.muli v16 c1_i32_1588
  let v1263 : BitVec 32 := Scalar.addi c0_i32_1589 v1262
  v1263.toNat
def k0_dev54 (d0 : Dev nD) : Nat :=
  let c0_i32_1606 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1605 : BitVec 32 := 1#32
  let v1270 : BitVec 32 := Scalar.muli v11 c1_i32_1605
  let v1271 : BitVec 32 := Scalar.addi c0_i32_1606 v1270
  v1271.toNat
def k0_dev55 (d0 : Dev nD) : Nat :=
  let c0_i32_1649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1648 : BitVec 32 := 1#32
  let v1307 : BitVec 32 := Scalar.muli v11 c1_i32_1648
  let v1308 : BitVec 32 := Scalar.addi c0_i32_1649 v1307
  v1308.toNat
def k0_dev56 (d0 : Dev nD) : Nat :=
  let c0_i32_1670 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1669 : BitVec 32 := 1#32
  let v1325 : BitVec 32 := Scalar.muli v16 c1_i32_1669
  let v1326 : BitVec 32 := Scalar.addi c0_i32_1670 v1325
  v1326.toNat
def k0_dev57 (d0 : Dev nD) : Nat :=
  let c0_i32_1714 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1713 : BitVec 32 := 1#32
  let v1362 : BitVec 32 := Scalar.muli v16 c1_i32_1713
  let v1363 : BitVec 32 := Scalar.addi c0_i32_1714 v1362
  v1363.toNat
def k0_dev58 (d0 : Dev nD) : Nat :=
  let c0_i32_1736 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1735 : BitVec 32 := 1#32
  let v1380 : BitVec 32 := Scalar.muli v11 c1_i32_1735
  let v1381 : BitVec 32 := Scalar.addi c0_i32_1736 v1380
  v1381.toNat
def k0_dev59 (d0 : Dev nD) : Nat :=
  let c0_i32_1780 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1779 : BitVec 32 := 1#32
  let v1417 : BitVec 32 := Scalar.muli v11 c1_i32_1779
  let v1418 : BitVec 32 := Scalar.addi c0_i32_1780 v1417
  v1418.toNat
def k0_dev60 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1801 : BitVec 32 := 1#32
  let v1435 : BitVec 32 := Scalar.muli v16 c1_i32_1801
  let v1436 : BitVec 32 := Scalar.addi c0_i32_1802 v1435
  v1436.toNat
def k0_dev61 (d0 : Dev nD) : Nat :=
  let c0_i32_1846 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1845 : BitVec 32 := 1#32
  let v1472 : BitVec 32 := Scalar.muli v16 c1_i32_1845
  let v1473 : BitVec 32 := Scalar.addi c0_i32_1846 v1472
  v1473.toNat
def k0_dev62 (d0 : Dev nD) : Nat :=
  let c0_i32_1868 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1867 : BitVec 32 := 1#32
  let v1490 : BitVec 32 := Scalar.muli v11 c1_i32_1867
  let v1491 : BitVec 32 := Scalar.addi c0_i32_1868 v1490
  v1491.toNat
def k0_dev63 (d0 : Dev nD) : Nat :=
  let c0_i32_1912 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1911 : BitVec 32 := 1#32
  let v1516 : BitVec 32 := Scalar.muli v16 c1_i32_1911
  let v1517 : BitVec 32 := Scalar.addi c0_i32_1912 v1516
  v1517.toNat
def k0_dev64 (d0 : Dev nD) : Nat :=
  let c0_i32_1965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1964 : BitVec 32 := 1#32
  let v1551 : BitVec 32 := Scalar.muli v11 c1_i32_1964
  let v1552 : BitVec 32 := Scalar.addi c0_i32_1965 v1551
  v1552.toNat
def k0_dev65 (d0 : Dev nD) : Nat :=
  let c0_i32_2018 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2017 : BitVec 32 := 1#32
  let v1586 : BitVec 32 := Scalar.muli v16 c1_i32_2017
  let v1587 : BitVec 32 := Scalar.addi c0_i32_2018 v1586
  v1587.toNat
def k0_dev66 (d0 : Dev nD) : Nat :=
  let c0_i32_2071 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2070 : BitVec 32 := 1#32
  let v1621 : BitVec 32 := Scalar.muli v11 c1_i32_2070
  let v1622 : BitVec 32 := Scalar.addi c0_i32_2071 v1621
  v1622.toNat
def k0_dev67 (d0 : Dev nD) : Nat :=
  let c0_i32_2115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2114 : BitVec 32 := 1#32
  let v1656 : BitVec 32 := Scalar.muli v11 c1_i32_2114
  let v1657 : BitVec 32 := Scalar.addi c0_i32_2115 v1656
  v1657.toNat
def k0_dev68 (d0 : Dev nD) : Nat :=
  let c0_i32_2127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2126 : BitVec 32 := 1#32
  let v1660 : BitVec 32 := Scalar.muli v16 c1_i32_2126
  let v1661 : BitVec 32 := Scalar.addi c0_i32_2127 v1660
  v1661.toNat
def k0_dev69 (d0 : Dev nD) : Nat :=
  let c0_i32_2171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2170 : BitVec 32 := 1#32
  let v1695 : BitVec 32 := Scalar.muli v16 c1_i32_2170
  let v1696 : BitVec 32 := Scalar.addi c0_i32_2171 v1695
  v1696.toNat
def k0_dev70 (d0 : Dev nD) : Nat :=
  let c0_i32_2184 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2183 : BitVec 32 := 1#32
  let v1699 : BitVec 32 := Scalar.muli v11 c1_i32_2183
  let v1700 : BitVec 32 := Scalar.addi c0_i32_2184 v1699
  v1700.toNat
def k0_dev71 (d0 : Dev nD) : Nat :=
  let c0_i32_2228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2227 : BitVec 32 := 1#32
  let v1734 : BitVec 32 := Scalar.muli v11 c1_i32_2227
  let v1735 : BitVec 32 := Scalar.addi c0_i32_2228 v1734
  v1735.toNat
def k0_dev72 (d0 : Dev nD) : Nat :=
  let c0_i32_2241 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2240 : BitVec 32 := 1#32
  let v1738 : BitVec 32 := Scalar.muli v16 c1_i32_2240
  let v1739 : BitVec 32 := Scalar.addi c0_i32_2241 v1738
  v1739.toNat
def k0_dev73 (d0 : Dev nD) : Nat :=
  let c0_i32_2285 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2284 : BitVec 32 := 1#32
  let v1773 : BitVec 32 := Scalar.muli v16 c1_i32_2284
  let v1774 : BitVec 32 := Scalar.addi c0_i32_2285 v1773
  v1774.toNat
def k0_dev74 (d0 : Dev nD) : Nat :=
  let c0_i32_2298 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2297 : BitVec 32 := 1#32
  let v1777 : BitVec 32 := Scalar.muli v11 c1_i32_2297
  let v1778 : BitVec 32 := Scalar.addi c0_i32_2298 v1777
  v1778.toNat
def k0_dev75 (d0 : Dev nD) : Nat :=
  let c0_i32_2342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2341 : BitVec 32 := 1#32
  let v1812 : BitVec 32 := Scalar.muli v11 c1_i32_2341
  let v1813 : BitVec 32 := Scalar.addi c0_i32_2342 v1812
  v1813.toNat
def k0_dev76 (d0 : Dev nD) : Nat :=
  let c0_i32_2354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2353 : BitVec 32 := 1#32
  let v1816 : BitVec 32 := Scalar.muli v16 c1_i32_2353
  let v1817 : BitVec 32 := Scalar.addi c0_i32_2354 v1816
  v1817.toNat
def k0_dev77 (d0 : Dev nD) : Nat :=
  let c0_i32_2398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2397 : BitVec 32 := 1#32
  let v1851 : BitVec 32 := Scalar.muli v16 c1_i32_2397
  let v1852 : BitVec 32 := Scalar.addi c0_i32_2398 v1851
  v1852.toNat
def k0_dev78 (d0 : Dev nD) : Nat :=
  let c0_i32_2411 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2410 : BitVec 32 := 1#32
  let v1855 : BitVec 32 := Scalar.muli v11 c1_i32_2410
  let v1856 : BitVec 32 := Scalar.addi c0_i32_2411 v1855
  v1856.toNat
def k0_dev79 (d0 : Dev nD) : Nat :=
  let c0_i32_2455 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2454 : BitVec 32 := 1#32
  let v1890 : BitVec 32 := Scalar.muli v11 c1_i32_2454
  let v1891 : BitVec 32 := Scalar.addi c0_i32_2455 v1890
  v1891.toNat
def k0_dev80 (d0 : Dev nD) : Nat :=
  let c0_i32_2468 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2467 : BitVec 32 := 1#32
  let v1894 : BitVec 32 := Scalar.muli v16 c1_i32_2467
  let v1895 : BitVec 32 := Scalar.addi c0_i32_2468 v1894
  v1895.toNat
def k0_dev81 (d0 : Dev nD) : Nat :=
  let c0_i32_2512 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2511 : BitVec 32 := 1#32
  let v1929 : BitVec 32 := Scalar.muli v16 c1_i32_2511
  let v1930 : BitVec 32 := Scalar.addi c0_i32_2512 v1929
  v1930.toNat
def k0_dev82 (d0 : Dev nD) : Nat :=
  let c0_i32_2525 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2524 : BitVec 32 := 1#32
  let v1933 : BitVec 32 := Scalar.muli v11 c1_i32_2524
  let v1934 : BitVec 32 := Scalar.addi c0_i32_2525 v1933
  v1934.toNat
def k0_dev83 (d0 : Dev nD) : Nat :=
  let c0_i32_2569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2568 : BitVec 32 := 1#32
  let v1968 : BitVec 32 := Scalar.muli v11 c1_i32_2568
  let v1969 : BitVec 32 := Scalar.addi c0_i32_2569 v1968
  v1969.toNat
def k0_dev84 (d0 : Dev nD) : Nat :=
  let c0_i32_2582 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2581 : BitVec 32 := 1#32
  let v1972 : BitVec 32 := Scalar.muli v16 c1_i32_2581
  let v1973 : BitVec 32 := Scalar.addi c0_i32_2582 v1972
  v1973.toNat
def k0_dev85 (d0 : Dev nD) : Nat :=
  let c0_i32_2626 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2625 : BitVec 32 := 1#32
  let v2007 : BitVec 32 := Scalar.muli v16 c1_i32_2625
  let v2008 : BitVec 32 := Scalar.addi c0_i32_2626 v2007
  v2008.toNat
def k0_dev86 (d0 : Dev nD) : Nat :=
  let c0_i32_2639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2638 : BitVec 32 := 1#32
  let v2011 : BitVec 32 := Scalar.muli v11 c1_i32_2638
  let v2012 : BitVec 32 := Scalar.addi c0_i32_2639 v2011
  v2012.toNat
def k0_dev87 (d0 : Dev nD) : Nat :=
  let c0_i32_2683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2682 : BitVec 32 := 1#32
  let v2046 : BitVec 32 := Scalar.muli v11 c1_i32_2682
  let v2047 : BitVec 32 := Scalar.addi c0_i32_2683 v2046
  v2047.toNat
def k0_dev88 (d0 : Dev nD) : Nat :=
  let c0_i32_2696 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2695 : BitVec 32 := 1#32
  let v2050 : BitVec 32 := Scalar.muli v16 c1_i32_2695
  let v2051 : BitVec 32 := Scalar.addi c0_i32_2696 v2050
  v2051.toNat
def k0_dev89 (d0 : Dev nD) : Nat :=
  let c0_i32_2740 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2739 : BitVec 32 := 1#32
  let v2085 : BitVec 32 := Scalar.muli v16 c1_i32_2739
  let v2086 : BitVec 32 := Scalar.addi c0_i32_2740 v2085
  v2086.toNat
def k0_dev90 (d0 : Dev nD) : Nat :=
  let c0_i32_2753 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2752 : BitVec 32 := 1#32
  let v2089 : BitVec 32 := Scalar.muli v11 c1_i32_2752
  let v2090 : BitVec 32 := Scalar.addi c0_i32_2753 v2089
  v2090.toNat
def k0_dev91 (d0 : Dev nD) : Nat :=
  let c0_i32_2797 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2796 : BitVec 32 := 1#32
  let v2124 : BitVec 32 := Scalar.muli v11 c1_i32_2796
  let v2125 : BitVec 32 := Scalar.addi c0_i32_2797 v2124
  v2125.toNat
def k0_dev92 (d0 : Dev nD) : Nat :=
  let c0_i32_2809 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2808 : BitVec 32 := 1#32
  let v2128 : BitVec 32 := Scalar.muli v16 c1_i32_2808
  let v2129 : BitVec 32 := Scalar.addi c0_i32_2809 v2128
  v2129.toNat
def k0_dev93 (d0 : Dev nD) : Nat :=
  let c0_i32_2853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2852 : BitVec 32 := 1#32
  let v2163 : BitVec 32 := Scalar.muli v16 c1_i32_2852
  let v2164 : BitVec 32 := Scalar.addi c0_i32_2853 v2163
  v2164.toNat
def k0_dev94 (d0 : Dev nD) : Nat :=
  let c0_i32_2866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2865 : BitVec 32 := 1#32
  let v2167 : BitVec 32 := Scalar.muli v11 c1_i32_2865
  let v2168 : BitVec 32 := Scalar.addi c0_i32_2866 v2167
  v2168.toNat
def k0_dev95 (d0 : Dev nD) : Nat :=
  let c0_i32_2910 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2909 : BitVec 32 := 1#32
  let v2202 : BitVec 32 := Scalar.muli v11 c1_i32_2909
  let v2203 : BitVec 32 := Scalar.addi c0_i32_2910 v2202
  v2203.toNat
def k0_dev96 (d0 : Dev nD) : Nat :=
  let c0_i32_2923 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2922 : BitVec 32 := 1#32
  let v2206 : BitVec 32 := Scalar.muli v16 c1_i32_2922
  let v2207 : BitVec 32 := Scalar.addi c0_i32_2923 v2206
  v2207.toNat
def k0_dev97 (d0 : Dev nD) : Nat :=
  let c0_i32_2967 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2966 : BitVec 32 := 1#32
  let v2241 : BitVec 32 := Scalar.muli v16 c1_i32_2966
  let v2242 : BitVec 32 := Scalar.addi c0_i32_2967 v2241
  v2242.toNat
def k0_dev98 (d0 : Dev nD) : Nat :=
  let c0_i32_2980 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2979 : BitVec 32 := 1#32
  let v2245 : BitVec 32 := Scalar.muli v11 c1_i32_2979
  let v2246 : BitVec 32 := Scalar.addi c0_i32_2980 v2245
  v2246.toNat
def k0_dev99 (d0 : Dev nD) : Nat :=
  let c0_i32_3032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3031 : BitVec 32 := 1#32
  let v2280 : BitVec 32 := Scalar.muli v16 c1_i32_3031
  let v2281 : BitVec 32 := Scalar.addi c0_i32_3032 v2280
  v2281.toNat
def k0_dev100 (d0 : Dev nD) : Nat :=
  let c0_i32_3085 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3084 : BitVec 32 := 1#32
  let v2315 : BitVec 32 := Scalar.muli v11 c1_i32_3084
  let v2316 : BitVec 32 := Scalar.addi c0_i32_3085 v2315
  v2316.toNat
def k0_dev101 (d0 : Dev nD) : Nat :=
  let c0_i32_3138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3137 : BitVec 32 := 1#32
  let v2350 : BitVec 32 := Scalar.muli v16 c1_i32_3137
  let v2351 : BitVec 32 := Scalar.addi c0_i32_3138 v2350
  v2351.toNat
def k0_dev102 (d0 : Dev nD) : Nat :=
  let c0_i32_3191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3190 : BitVec 32 := 1#32
  let v2385 : BitVec 32 := Scalar.muli v11 c1_i32_3190
  let v2386 : BitVec 32 := Scalar.addi c0_i32_3191 v2385
  v2386.toNat
abbrev stage0_0 : Fin 1 → Memref sig .tc .vmem S4096x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x2048, .fp8e4m3⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e4m3⟩
  | .local _ .vmem, ⟨2, _⟩ => ⟨S1, .f32⟩
  | .local _ .vmem, ⟨3, _⟩ => ⟨S1, .f32⟩
  | .local _ .vmem, ⟨4, _⟩ => ⟨S4096x2048, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
/-
  The kernel body as a program in jobs.

  The printed body is a straight line of about five hundred operations.  Here the same operations are
  written as a list of jobs: a block of the local matrix product, and for each of the four rings the
  fifteen stages of its pipeline.  `body_eq` states that the printed body is this program.
-/
module

public import proofs.«01_k».proof.Proof.Gen.KernelIdeal.Points
public import proofs.«01_k».proof.Proof.Gen.KernelIdeal.Skeleton
public import proofs.«01_k».proof.Proof.Gen.KernelIdeal.Launch

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-- A program of one core of the kernel, returning nothing. -/
abbrev P (F : FTy → Type) [FloatOps F] := Prog (TpuEff nD τ sig (Elt F) Λ₀ .tc) PUnit

/-! ## The buffers -/

/-- the activations block, -/
abbrev xM : Memref sig .tc .vmem S4096x512 .fp8e4m3 := Memref.whole cc0_stg0_0
/-- the weights block, -/
abbrev wM : Memref sig .tc .vmem S512x2048 .fp8e4m3 := Memref.whole cc0_stg1_0
/-- the two scales, -/
abbrev sxM : Memref sig .tc .smem S1 .f32 := Memref.whole cc0_stg2_0
abbrev swM : Memref sig .tc .smem S1 .f32 := Memref.whole cc0_stg3_0
/-- the result, -/
abbrev oM : Memref sig .tc .vmem S4096x2048 .f32 := Memref.whole cc0_stg4_0
/-- the widened weights, -/
abbrev bM : Memref sig .tc .vmem S512x2048 .bf16 := Memref.whole cc0_scratch0
/-- the stage slots a device sends from, -/
abbrev sM : Memref sig .tc .vmem S4x3x512x512 .bf16 := Memref.whole cc0_scratch1
/-- and the slots it receives in. -/
abbrev cM : Memref sig .tc .vmem S4x3x512x512 .bf16 := Memref.whole cc0_scratch2

/-! ## Words, devices, blocks -/

/-- Rings 0 and 2 run towards the right neighbour, 1 and 3 towards the left one. -/
def cw (r : Fin 4) : Bool := match r with | 0 => true | 1 => false | 2 => true | 3 => false

/-- The chunk offset a ring's step `s` works at, as a word: `-s` on a ring running right, `s` on the others. -/
def kw (b : Bool) (s : ℕ) : BitVec 32 := match b with | true => BitVec.ofNat 32 (4294967296 - s) | false => BitVec.ofNat 32 s

/-- The left neighbour on the ring of devices. -/
def lft (d : Dev nD) : Dev nD := ⟨k0_dev1 d, k0_dev1_lt d⟩
/-- The right neighbour. -/
def rgt (d : Dev nD) : Dev nD := ⟨k0_dev2 d, k0_dev2_lt d⟩
/-- The device a ring sends to; -/
def nxt (r : Fin 4) (d : Dev nD) : Dev nD := match cw r with | true => rgt d | false => lft d
/-- and the one it receives from. -/
def prv (r : Fin 4) (d : Dev nD) : Dev nD := match cw r with | true => lft d | false => rgt d

/-- The corner of the block of the result a ring works on at chunk offset `c`. -/
def blkOff (r : Fin 4) (d : Dev nD) (c : BitVec 32) : Fin 2 → ℕ :=
  match r with | 0 => k0_off3 d c | 1 => k0_off4 d c | 2 => k0_off5 d c | 3 => k0_off6 d c

theorem blk_inb : ∀ (r : Fin 4) (d : Dev nD) (s : Fin 8) (a : Fin 2),
    blkOff r d (kw (cw r) s.val) a + S512x512.size a ≤ S4096x2048.size a := by decide +kernel
theorem row_inb : ∀ (b : Bool) (d : Dev nD) (s : Fin 8) (a : Fin 2),
    k0_off2 d (kw b s.val) a + S512x2048.size a ≤ S4096x2048.size a := by decide +kernel
theorem xrow_inb : ∀ (b : Bool) (d : Dev nD) (s : Fin 8) (a : Fin 2),
    k0_off1 d (kw b s.val) a + S512x512.size a ≤ S4096x512.size a := by decide +kernel

/-- the rows of the activations, -/
abbrev xrow (b : Bool) (d : Dev nD) (s : Fin 8) := Rect.unit (s := S4096x512) (k0_off1 d (kw b s.val)) S512x512.size (xrow_inb b d s)
/-- of the result, -/
abbrev orow (b : Bool) (d : Dev nD) (s : Fin 8) := Rect.unit (s := S4096x2048) (k0_off2 d (kw b s.val)) S512x2048.size (row_inb b d s)
/-- and a ring's block of the result, at step `s`; -/
abbrev oblk (r : Fin 4) (d : Dev nD) (s : Fin 8) := Rect.unit (s := S4096x2048) (blkOff r d (kw (cw r) s.val)) S512x512.size (blk_inb r d s)
/-- the whole of the weights. -/
abbrev wAll := Rect.unit (s := S512x2048) ![0, 0] S512x2048.size inb_S512x2048_S512x2048_0_0

/-! ## Slots and semaphores -/

theorem slot_inb : ∀ (r : Fin 4) (j : Fin 3) (a : Fin 4), (![r.val, j.val, 0, 0] : Fin 4 → ℕ) a + S1x1x512x512.size a ≤ S4x3x512x512.size a := by
  decide
/-- Slot `j` of ring `r` in the stage or in the receive buffer. -/
abbrev slotR (r : Fin 4) (j : Fin 3) := Rect.unit (s := S4x3x512x512) ![r.val, j.val, 0, 0] S1x1x512x512.size (slot_inb r j)
theorem slot_packed (r : Fin 4) (j : Fin 3) : (slotR r j).PackedRows (EltTy.packing .bf16) := by
  fin_cases r <;> fin_cases j <;> decide
theorem slot_words (r : Fin 4) (j : Fin 3) : (slotR r j).WholeWords (EltTy.packing .bf16) := by
  fin_cases r <;> fin_cases j <;> decide

/-- The slot a hop lands in, and is staged in. -/
def slotOf (u : ℕ) : Fin 3 := ⟨u % 3, Nat.mod_lt _ (by decide)⟩

/-- A stage slot as a transfer names it; -/
abbrev stS (r : Fin 4) (j : Fin 3) : Memref sig .tc .vmem S512x512 .bf16 :=
  (sM.slice (slotR r j) (fun _ => rfl)).squeeze S512x512 squeezes_S1x1x512x512_S512x512
/-- a receive slot. -/
abbrev coS (r : Fin 4) (j : Fin 3) : Memref sig .tc .vmem S512x512 .bf16 :=
  (cM.slice (slotR r j) (fun _ => rfl)).squeeze S512x512 squeezes_S1x1x512x512_S512x512

theorem st_exact (r : Fin 4) (j : Fin 3) : (stS r j).view.WordExact :=
  ((Memref.isWhole_whole _ : sM.IsWhole).wordExact_slice rfl _ (slot_words r j)).reshape _ _
theorem co_exact (r : Fin 4) (j : Fin 3) : (coS r j).view.WordExact :=
  ((Memref.isWhole_whole _ : cM.IsWhole).wordExact_slice rfl _ (slot_words r j)).reshape _ _

theorem sem_inb : ∀ (r : Fin 4) (u : Fin 14) (a : Fin 2), (![r.val, u.val] : Fin 2 → ℕ) a + S1x1.size a ≤ S4x14.size a := by decide
theorem crd_inb : ∀ (r : Fin 4) (a : Fin 1), (![r.val] : Fin 1 → ℕ) a + S1.size a ≤ S4.size a := by decide
/-- The semaphore of a hop's departure, -/
abbrev sndSem (r : Fin 4) (u : Fin 14) : DmaSem sig :=
  ((cc0_scratch3.slice (Rect.unit (s := S4x14) ![r.val, u.val] S1x1.size (sem_inb r u))).squeeze S_ squeezes_S1x1_S_).sem
/-- of its arrival, -/
abbrev rcvSem (r : Fin 4) (u : Fin 14) : DmaSem sig :=
  ((cc0_scratch4.slice (Rect.unit (s := S4x14) ![r.val, u.val] S1x1.size (sem_inb r u))).squeeze S_ squeezes_S1x1_S_).sem
/-- of a ring's credits, -/
abbrev crdSem (r : Fin 4) : Sem sig :=
  ((cc0_scratch5.slice (Rect.unit (s := S4) ![r.val] S1.size (crd_inb r))).squeeze S_ squeezes_S1_S_).sem
/-- and the barrier. -/
abbrev barSem : Sem sig := (SemArray.scalar (sig.barrier 0 rfl) : Sems sig S_).sem

/-! ## The jobs -/

/-- The weights widened into their buffer. -/
def loadW : P F := do
  let v ← Prog.lift (.load wM wAll.toLoadRect (View.loadsAt_vmem h_S512x2048))
  let _ ← Prog.lift (.load bM wAll.toLoadRect (View.loadsAt_vmem h_S512x2048))
  Prog.lift (.store bM wAll (k0_pay2 v) Finset.univ
    (View.stores_vmem h_S512x2048 ((Memref.isWhole_whole _ : bM.IsWhole).storeExact_slice rfl _ packedbf16_S512x2048_S512x2048_0_0) (fun _ => rfl)) (.inl rfl))

/-- One block of rows of the local product, stored in the result. -/
def gemm (d : Dev nD) (b : Bool) (s : Fin 8) : P F := do
  let v ← Prog.lift (.load xM (xrow b d s).toLoadRect (View.loadsAt_vmem h_S512x512))
  let w ← Prog.lift (.load bM wAll.toLoadRect (View.loadsAt_vmem h_S512x2048))
  let _ ← Prog.lift (.load oM (orow b d s).toLoadRect (View.loadsAt_vmem h_S512x2048))
  Prog.lift (.store oM (orow b d s) (k0_pay3 v w) Finset.univ (View.stores_vmem_bits_univ h_S512x2048 rfl) (.inl rfl))

/-- The handshake with both neighbours. -/
def barrier (d : Dev nD) : P F := do
  semSignalWord (lft d) barSem 1#32
  semSignalWord (rgt d) barSem 1#32
  semWaitWord barSem 2#32

/-- A hop's departure, from `src`. -/
def start (d : Dev nD) (r : Fin 4) (u : Fin 14) (src : Memref sig .tc .vmem S512x512 .bf16) (h : src.view.WordExact) : P F :=
  Prog.lift (.enqueueDma src (.remote (Dev.tc (nxt r d)) (coS r (slotOf u.val)) (.dma (sndSem r u))) (.dma (rcvSem r u)) h (co_exact r _)
    ⟨⟨rfl, Or.inl rfl⟩, trivial⟩)

/-- The wait for a hop sent from `src`: its own departure, then the arrival of the neighbour's. -/
def waitHop (r : Fin 4) (u : Fin 14) (src : Memref sig .tc .vmem S512x512 .bf16) (h : src.view.WordExact) : P F := do
  Prog.lift (.waitDma2 (sndSem r u) (coS r (slotOf u.val)) src (co_exact r _) h)
  Prog.lift (.waitDma2 (rcvSem r u) src (coS r (slotOf u.val)) h (co_exact r _))

/-- A credit handed back to the device the ring receives from. -/
def giveCredit (d : Dev nD) (r : Fin 4) : P F := semSignalWord (prv r d) (crdSem r) 1#32
/-- A credit taken. -/
def takeCredit (r : Fin 4) : P F := semWaitWord (crdSem r) 1#32

/-- A block stored in a stage slot. -/
def putStage (r : Fin 4) (u : ℕ) (v : Vec F S1x1x512x512 .bf16) : P F := do
  let _ ← Prog.lift (.load sM (slotR r (slotOf u)).toLoadRect (View.loadsAt_vmem h_S1x1x512x512))
  Prog.lift (.store sM (slotR r (slotOf u)) v Finset.univ
    (View.stores_vmem h_S1x1x512x512 ((Memref.isWhole_whole _ : sM.IsWhole).storeExact_slice rfl _ (slot_packed r _)) (fun _ => rfl)) (.inl rfl))

/-- The ring's block of the result at step `s`, read; -/
def getBlk (d : Dev nD) (r : Fin 4) (s : Fin 8) : Prog (TpuEff nD τ sig (Elt F) Λ₀ .tc) (Vec F S512x512 .f32) :=
  Prog.lift (.load oM (oblk r d s).toLoadRect (View.loadsAt_vmem h_S512x512))
/-- and written. -/
def putBlk (d : Dev nD) (r : Fin 4) (s : Fin 8) (v : Vec F S512x512 .f32) : P F := do
  let _ ← Prog.lift (.load oM (oblk r d s).toLoadRect (View.loadsAt_vmem h_S512x512))
  Prog.lift (.store oM (oblk r d s) v Finset.univ (View.stores_vmem_bits_univ h_S512x512 rfl) (.inl rfl))

/-- A landed block read. -/
def getComm (r : Fin 4) (u : ℕ) : Prog (TpuEff nD τ sig (Elt F) Λ₀ .tc) (Vec F S1x1x512x512 .bf16) :=
  Prog.lift (.load cM (slotR r (slotOf u)).toLoadRect (View.loadsAt_vmem h_S1x1x512x512))

/-- Stage 0 of a ring: its own block staged and sent. -/
def first (d : Dev nD) (r : Fin 4) : P F := do
  let v ← getBlk d r 0
  putStage r 0 (k0_pay4 v)
  start d r 0 (stS r (slotOf 0)) (st_exact r _)

/-- Stages 1 to 6: a landed partial sum, the local block added, sent on. -/
def add (d : Dev nD) (r : Fin 4) (s : Fin 6) : P F := do
  waitHop r ⟨s.val, by omega⟩ (stS r (slotOf s.val)) (st_exact r _)
  let v ← getBlk d r ⟨s.val + 1, by omega⟩
  let c ← getComm r s.val
  giveCredit d r
  (if 2 ≤ s.val then takeCredit r else pure ⟨⟩)
  putStage r (s.val + 1) (k0_pay10 v c)
  start d r ⟨s.val + 1, by omega⟩ (stS r (slotOf (s.val + 1))) (st_exact r _)

/-- Stage 7: the last addition, scaled and clamped, kept and sent on. -/
def fin (d : Dev nD) (r : Fin 4) : P F := do
  waitHop r 6 (stS r (slotOf 6)) (st_exact r _)
  let v ← getBlk d r 7
  let c ← getComm r 6
  giveCredit d r
  let a ← smemLoad sxM (Rect.unit (s := S1) ![0] S1.size inb_S1_S1_0) numel1_S1 rfl
  let b ← smemLoad swM (Rect.unit (s := S1) ![0] S1.size inb_S1_S1_0) numel1_S1 rfl
  putBlk d r 7 (k0_pay52 v c a b)
  takeCredit r
  putStage r 7 (k0_pay53 v c a b)
  start d r 7 (stS r (slotOf 7)) (st_exact r _)

/-- What hop `u` was sent from: a stage slot up to hop 7, the slot the hop before landed in after it. -/
def srcM (r : Fin 4) (u : ℕ) : Memref sig .tc .vmem S512x512 .bf16 := if u < 8 then stS r (slotOf u) else coS r (slotOf (u - 1))
theorem src_exact (r : Fin 4) (u : ℕ) : (srcM r u).view.WordExact := by
  unfold srcM; split
  · exact st_exact r _
  · exact co_exact r _

/-- Stages 8 to 13: a landed finished block, sent on from where it landed and kept. -/
def fwd (d : Dev nD) (r : Fin 4) (e : Fin 6) : P F := do
  waitHop r ⟨e.val + 7, by omega⟩ (srcM r (e.val + 7)) (src_exact r _)
  (if 1 ≤ e.val ∧ e.val ≤ 4 then giveCredit d r else pure ⟨⟩)
  takeCredit r
  start d r ⟨e.val + 8, by omega⟩ (coS r (slotOf (e.val + 7))) (co_exact r _)
  let c ← getComm r (e.val + 7)
  putBlk d r ⟨e.val, by omega⟩ (k0_pay1 c)

/-- Stage 14: the last block, kept. -/
def last (d : Dev nD) (r : Fin 4) : P F := do
  waitHop r 13 (coS r (slotOf 12)) (co_exact r _)
  let c ← getComm r 13
  putBlk d r 6 (k0_pay1 c)

/-- One stage of all four rings. -/
def all4 (j : Fin 4 → P F) : P F := do j 0; j 1; j 2; j 3

/-- The body in jobs. -/
def prog (d : Dev nD) : P F := do
  loadW
  gemm d false 0
  barrier d
  all4 (first d)
  gemm d true 1; gemm d false 1
  all4 (add d · 0)
  gemm d true 2; gemm d false 2
  all4 (add d · 1)
  gemm d true 3; gemm d false 3
  all4 (add d · 2)
  gemm d false 4
  all4 (add d · 3)
  all4 (add d · 4)
  all4 (add d · 5)
  all4 (fin d)
  all4 (fwd d · 0)
  all4 (fwd d · 1)
  all4 (fwd d · 2)
  all4 (fwd d · 3)
  all4 (fwd d · 4)
  all4 (fwd d · 5)
  all4 (last d)

/-- The printed body, on the buffers the launch calls it with, is the program in jobs at the device it runs on. -/
theorem body_eq (t : Fin cfg0.N) : bodyAt0 (F := F) t = (do let d ← Prog.lift .deviceId; prog d) := by
  rw [fin_N0 t]
  chain_rfl

end Cert.RingProof

end
-- ==== Proof.Vals.lean ====
/-
  What the buffers hold.

  The partial product of a device, what each hop of a ring carries, and the finished blocks, as functions of the
  devices' operands; what a load reads of a buffer after the stores of the body; and `OInv`, which says what every block
  of the result holds in the middle of the body.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.Sem

variable {F : FTy → Type} [FloatOps F]

/-! ## Where the blocks lie -/

/-- A device's place on the ring of devices. -/
def ham (d : Dev nD) : ℕ := if d.val < 4 then d.val else 11 - d.val
/-- The chunk of rows, counted from a device's own, that a step works at. -/
def offs (b : Bool) (s : Fin 8) : Fin 8 := if b then -s else s
/-- The chunk of rows itself. -/
def chunk (d : Dev nD) (o : Fin 8) : ℕ := (ham d + o.val) % 8
/-- The quarter of the columns a ring works on. -/
def qt (r : Fin 4) : Fin 4 := match r with | 0 => 0 | 1 => 2 | 2 => 1 | 3 => 3

theorem chunk_lt (d : Dev nD) (o : Fin 8) : chunk d o < 8 := Nat.mod_lt _ (by decide)
theorem chunk_inj : ∀ (d : Dev nD) (o o' : Fin 8), chunk d o = chunk d o' → o = o' := by decide +kernel
theorem offs_inj : ∀ (b : Bool) (s s' : Fin 8), offs b s = offs b s' → s = s' := by decide
theorem qt_inj : ∀ r r' : Fin 4, qt r = qt r' → r = r' := by decide

theorem blkOff_eq : ∀ (r : Fin 4) (d : Dev nD) (s : Fin 8),
    blkOff r d (kw (cw r) s.val) = ![512 * chunk d (offs (cw r) s), 512 * (qt r).val] := by decide +kernel
theorem rowOff_eq : ∀ (b : Bool) (d : Dev nD) (s : Fin 8), k0_off2 d (kw b s.val) = ![512 * chunk d (offs b s), 0] := by decide +kernel
theorem xOff_eq : ∀ (b : Bool) (d : Dev nD) (s : Fin 8), k0_off1 d (kw b s.val) = ![512 * chunk d (offs b s), 0] := by decide +kernel

theorem col_inb : ∀ (r : Fin 4) (a : Fin 2), (![0, 512 * (qt r).val] : Fin 2 → ℕ) a + S512x512.size a ≤ S512x2048.size a := by decide
/-- A ring's quarter of a block of rows. -/
abbrev colR (r : Fin 4) := Rect.unit (s := S512x2048) ![0, 512 * (qt r).val] S512x512.size (col_inb r)

/-- A ring's block lies in the rows of its chunk at its quarter. -/
theorem oblk_emb (r : Fin 4) (d : Dev nD) (s : Fin 8) {b : Bool} {s' : Fin 8} (h : offs (cw r) s = offs b s') (i : S512x512.Idx) :
    (oblk r d s).emb i = (orow b d s').emb ((colR r).emb i) := by
  funext a
  apply Fin.ext
  show blkOff r d (kw (cw r) s.val) a + 1 * (i a).val = k0_off2 d (kw b s'.val) a + 1 * ((![0, 512 * (qt r).val] : Fin 2 → ℕ) a + 1 * (i a).val)
  rw [blkOff_eq, rowOff_eq, h]
  fin_cases a
  · show 512 * _ + 1 * _ = 512 * _ + 1 * (0 + 1 * _); omega
  · show 512 * _ + 1 * _ = 0 + 1 * (512 * _ + 1 * _); omega

theorem mem_oblk {r : Fin 4} {d : Dev nD} {s : Fin 8} {y : S4096x2048.Idx} :
    y ∈ (oblk r d s).set ↔ (512 * chunk d (offs (cw r) s) ≤ (y 0).val ∧ (y 0).val < 512 * chunk d (offs (cw r) s) + 512)
      ∧ (512 * (qt r).val ≤ (y 1).val ∧ (y 1).val < 512 * (qt r).val + 512) := by
  rw [Rect.mem_set_unit, blkOff_eq]
  exact Fin.forall_fin_two
theorem mem_orow {b : Bool} {d : Dev nD} {s : Fin 8} {y : S4096x2048.Idx} (h : y ∈ (orow b d s).set) :
    512 * chunk d (offs b s) ≤ (y 0).val ∧ (y 0).val < 512 * chunk d (offs b s) + 512 := by
  rw [Rect.mem_set_unit, rowOff_eq] at h
  exact h 0

theorem oblk_disj {r r' : Fin 4} {s s' : Fin 8} (d : Dev nD) (h : ¬(r = r' ∧ s = s')) : Disjoint (oblk r d s).set (oblk r' d s').set := by
  refine Finset.disjoint_left.mpr fun y h₁ h₂ => h ?_
  rw [mem_oblk] at h₁ h₂
  have hr : r = r' := qt_inj _ _ (Fin.ext (by omega))
  subst hr
  exact ⟨rfl, offs_inj (cw r) _ _ (chunk_inj d _ _ (by omega))⟩
theorem oblk_row_disj {r : Fin 4} {s s' : Fin 8} {b : Bool} (d : Dev nD) (h : offs (cw r) s ≠ offs b s') :
    Disjoint (oblk r d s).set (orow b d s').set := by
  refine Finset.disjoint_left.mpr fun y h₁ h₂ => h (chunk_inj d _ _ ?_)
  rw [mem_oblk] at h₁
  have := mem_orow h₂
  omega

/-! ## What is computed -/

/-- The operands of every device. -/
structure Inp (F : FTy → Type) [FloatOps F] where
  x : Dev nD → Vec F S4096x512 .fp8e4m3
  w : Dev nD → Vec F S512x2048 .fp8e4m3
  sx : Dev nD → Vec F S1 .f32
  sw : Dev nD → Vec F S1 .f32

variable (I : Inp F)

/-- The widened weights of a device. -/
def wb (d : Dev nD) : Vec F S512x2048 .bf16 := k0_pay2 (wM.view.readAt (Elt F) wAll.toLoadRect (I.w d))
/-- A block of rows of its product. -/
def rows (d : Dev nD) (b : Bool) (s : Fin 8) : Vec F S512x2048 .f32 := k0_pay3 (xM.view.readAt (Elt F) (xrow b d s).toLoadRect (I.x d)) (wb I d)
theorem xread_congr {o o' : Fin 2 → ℕ} (h : o = o') (i : ∀ a, o a + S512x512.size a ≤ S4096x512.size a) (i' : ∀ a, o' a + S512x512.size a ≤ S4096x512.size a)
    (v : Vec F S4096x512 .fp8e4m3) :
    (xM.view.readAt (Elt F) (Rect.unit (s := S4096x512) o S512x512.size i).toLoadRect v : Vec F S512x512 .fp8e4m3)
      = xM.view.readAt (Elt F) (Rect.unit (s := S4096x512) o' S512x512.size i').toLoadRect v := by subst h; rfl
theorem rows_congr (d : Dev nD) {b b' : Bool} {s s' : Fin 8} (h : offs b s = offs b' s') : rows I d b s = rows I d b' s' :=
  congrArg (fun v : Vec F S512x512 .fp8e4m3 => k0_pay3 v (wb I d)) (xread_congr (by rw [xOff_eq, xOff_eq, h]) _ _ _)
/-- A ring's block of its product. -/
def part (r : Fin 4) (s : Fin 8) (d : Dev nD) : Vec F S512x512 .f32 := fun i => rows I d (cw r) s ((colR r).emb i)

/-- A scale as the body reads it. -/
abbrev sc1 := Rect.unit (s := S1) ![0] S1.size inb_S1_S1_0
def sxv (d : Dev nD) : Elt F .f32 := (sxM.access sc1).read (Elt F) (I.sx d) (Shape.Idx.first (numel1_S1.symm ▸ Nat.one_pos))
def swv (d : Dev nD) : Elt F .f32 := (swM.access sc1).read (Elt F) (I.sw d) (Shape.Idx.first (numel1_S1.symm ▸ Nat.one_pos))

/-- What hop `u` of ring `r` carries when `d` sends it: the partial sums up to hop 6, the finished block at hop 7, then the
    block that came with the hop before. -/
def hv (r : Fin 4) : ℕ → Dev nD → Vec F S1x1x512x512 .bf16
  | 0, d => k0_pay4 (part I r 0 d)
  | u + 1, d =>
    if h : u < 6 then k0_pay10 (part I r ⟨u + 1, by omega⟩ d) (hv r u (prv r d))
    else if u = 6 then k0_pay53 (part I r 7 d) (hv r 6 (prv r d)) (sxv I d) (swv I d)
    else hv r u (prv r d)

/-- The finished block of ring `r` at step `s`. -/
def finv (r : Fin 4) (s : Fin 8) (d : Dev nD) : Vec F S512x512 .f32 :=
  if s = 7 then k0_pay52 (part I r 7 d) (hv I r 6 (prv r d)) (sxv I d) (swv I d) else k0_pay1 (hv I r (s.val + 7) (prv r d))

theorem hv_add (r : Fin 4) (d : Dev nD) (s : Fin 6) :
    hv I r (s.val + 1) d = k0_pay10 (part I r ⟨s.val + 1, by omega⟩ d) (hv I r s.val (prv r d)) := by
  rw [hv, dif_pos s.isLt]
theorem hv_fin (r : Fin 4) (d : Dev nD) : hv I r 7 d = k0_pay53 (part I r 7 d) (hv I r 6 (prv r d)) (sxv I d) (swv I d) := by
  rw [hv, dif_neg (by decide), if_pos rfl]
theorem hv_fwd (r : Fin 4) (d : Dev nD) (e : ℕ) : hv I r (e + 8) d = hv I r (e + 7) (prv r d) := by
  rw [hv, dif_neg (by omega), if_neg (by omega)]

/-! ## Slots -/

theorem sq_casts : (slotR 0 0).shape.ShapeCasts S512x512 := shapeCasts_S1x1x512x512_S512x512
/-- A block as a transfer reads it. -/
def sq (v : Vec F S1x1x512x512 .bf16) : Vec F S512x512 .bf16 := shapeCast S512x512 v sq_casts

theorem sq_inj {v w : Vec F S1x1x512x512 .bf16} (h : sq v = sq w) : v = w := by
  funext i
  have := congrFun h ((Shape.reshapeEquiv sq_casts).symm i)
  unfold sq shapeCast at this
  rwa [Equiv.apply_symm_apply] at this

theorem co_read (r : Fin 4) (j : Fin 3) (f : cM.view.ty.Contents (Elt F)) :
    (coS r j).view.read (Elt F) f = sq (cM.view.readAt (Elt F) (slotR r j).toLoadRect f) := rfl
theorem st_read (r : Fin 4) (j : Fin 3) (f : sM.view.ty.Contents (Elt F)) :
    (stS r j).view.read (Elt F) f = sq (sM.view.readAt (Elt F) (slotR r j).toLoadRect f) := rfl

theorem st_write (r : Fin 4) (j : Fin 3) (f : sM.view.ty.Contents (Elt F)) (v : Vec F S1x1x512x512 .bf16) :
    (stS r j).view.read (Elt F) ((sM.access (slotR r j)).write (Elt F) f v Finset.univ) = sq v :=
  (st_read r j _).trans (congrArg sq (View.read_write_univ (v := sM.access (slotR r j)) f v))

theorem b_write (f : bM.view.ty.Contents (Elt F)) (v : Vec F S512x2048 .bf16) :
    bM.view.readAt (Elt F) wAll.toLoadRect ((bM.access wAll).write (Elt F) f v Finset.univ) = v :=
  View.read_write_univ (v := bM.access wAll) f v

theorem co_set (r : Fin 4) (j : Fin 3) : (coS r j).view.set = (cM.access (slotR r j)).set := View.set_reshape _ _
theorem st_set (r : Fin 4) (j : Fin 3) : (stS r j).view.set = (sM.access (slotR r j)).set := View.set_reshape _ _

/-! ## The result in the middle of the body -/

theorem disj_slice {r r' : Rect S4096x2048} (h : Disjoint r.set r'.set) : Disjoint (oM.view.slice r).set (oM.view.slice r').set := by
  rw [View.set_slice, View.set_slice]
  exact (Finset.disjoint_map oM.view.emb).mpr h

/-- A block of the result's buffer. -/
abbrev oread (d : Dev nD) (r : Fin 4) (s : Fin 8) (f : oM.view.ty.Contents (Elt F)) : Vec F S512x512 .f32 :=
  oM.view.readAt (Elt F) (oblk r d s).toLoadRect f

theorem oread_put_same (d : Dev nD) (r : Fin 4) (s : Fin 8) (f : oM.view.ty.Contents (Elt F)) (v : Vec F S512x512 .f32) :
    oread d r s ((oM.access (oblk r d s)).write (Elt F) f v Finset.univ) = v :=
  View.read_write_univ (v := oM.access (oblk r d s)) f v
theorem oread_put_other (d : Dev nD) {r r' : Fin 4} {s s' : Fin 8} (h : ¬(r = r' ∧ s = s')) (f : oM.view.ty.Contents (Elt F)) (v : Vec F S512x512 .f32) :
    oread d r s ((oM.access (oblk r' d s')).write (Elt F) f v Finset.univ) = oread d r s f :=
  View.read_slice_write_slice_of_disjoint (v := oM.view) (oblk r d s) (oblk r' d s') f v Finset.univ
    (disj_slice (oblk_disj d h))
theorem oread_row_other (d : Dev nD) {r : Fin 4} {s s' : Fin 8} {b : Bool} (h : offs (cw r) s ≠ offs b s') (f : oM.view.ty.Contents (Elt F))
    (v : Vec F S512x2048 .f32) :
    oread d r s ((oM.access (orow b d s')).write (Elt F) f v Finset.univ) = oread d r s f :=
  View.read_slice_write_slice_of_disjoint (v := oM.view) (oblk r d s) (orow b d s') f v Finset.univ
    (disj_slice (oblk_row_disj d h))
theorem oread_row_same (d : Dev nD) {r : Fin 4} {s s' : Fin 8} {b : Bool} (h : offs (cw r) s = offs b s') (f : oM.view.ty.Contents (Elt F)) :
    oread d r s ((oM.access (orow b d s')).write (Elt F) f (rows I d b s') Finset.univ) = part I r s d := by
  funext i
  show oM.view.read (Elt F) _ ((oblk r d s).emb i) = _
  rw [oblk_emb r d s h, View.read_slice_write_emb (v := oM.view) (orow b d s') f (rows I d b s') (Finset.mem_univ _)]
  exact congrFun (rows_congr I d h).symm _

/-- Whether a ring that has done `n` jobs has finished its block of step `s`. -/
def done (n : ℕ) (s : Fin 8) : Bool := if s = 7 then decide (8 ≤ n) else decide (s.val + 9 ≤ n)

/-- What the blocks of the result hold when the local product is in at the offsets `D` and ring `r` has done `n r` jobs. -/
def OInv (d : Dev nD) (D : Finset (Fin 8)) (n : Fin 4 → ℕ) (f : oM.view.ty.Contents (Elt F)) : Prop :=
  ∀ r s, if done (n r) s then oread d r s f = finv I r s d else (offs (cw r) s ∈ D → oread d r s f = part I r s d)

theorem OInv.init (d : Dev nD) (f : oM.view.ty.Contents (Elt F)) : OInv I d ∅ (fun _ => 0) f := by
  intro r s
  have h : done 0 s = false := by revert s; decide
  rw [h]
  exact fun h => absurd h (Finset.notMem_empty _)

theorem OInv.get {d : Dev nD} {D : Finset (Fin 8)} {n : Fin 4 → ℕ} {f : oM.view.ty.Contents (Elt F)} (h : OInv I d D n f) (r : Fin 4) (s : Fin 8)
    (hn : done (n r) s = false) (hD : offs (cw r) s ∈ D) : oread d r s f = part I r s d := by
  have := h r s
  rw [hn] at this
  exact this hD

theorem OInv.gemm {d : Dev nD} {D : Finset (Fin 8)} {n : Fin 4 → ℕ} {f : oM.view.ty.Contents (Elt F)} (h : OInv I d D n f) (b : Bool) (s' : Fin 8)
    (hn : ∀ r s, offs (cw r) s = offs b s' → done (n r) s = false) :
    OInv I d (insert (offs b s') D) n ((oM.access (orow b d s')).write (Elt F) f (rows I d b s') Finset.univ) := by
  intro r s
  by_cases hs : offs (cw r) s = offs b s'
  · rw [hn r s hs]
    exact fun _ => oread_row_same I d hs f
  · rw [oread_row_other d hs]
    have := h r s
    cases hd : done (n r) s
    · rw [hd] at this
      exact fun hm => this ((Finset.mem_insert.mp hm).resolve_left hs)
    · rw [hd] at this
      exact this

theorem OInv.skip {d : Dev nD} {D : Finset (Fin 8)} {n : Fin 4 → ℕ} {f : oM.view.ty.Contents (Elt F)} (h : OInv I d D n f) (r : Fin 4) (k : ℕ)
    (hk : ∀ s, done k s = done (n r) s) : OInv I d D (Function.update n r k) f := by
  intro r' s
  by_cases hr : r' = r
  · subst hr; rw [Function.update_self, hk]; exact h r' s
  · rw [Function.update_of_ne hr]; exact h r' s

theorem OInv.put {d : Dev nD} {D : Finset (Fin 8)} {n : Fin 4 → ℕ} {f : oM.view.ty.Contents (Elt F)} (h : OInv I d D n f) (r : Fin 4) (k : ℕ) (s' : Fin 8)
    (hs : done k s' = true) (hk : ∀ s, s ≠ s' → done k s = done (n r) s) :
    OInv I d D (Function.update n r k) ((oM.access (oblk r d s')).write (Elt F) f (finv I r s' d) Finset.univ) := by
  intro r' s
  by_cases hr : r' = r
  · subst hr
    rw [Function.update_self]
    by_cases he : s = s'
    · subst he; rw [hs]; exact oread_put_same d r' s f _
    · rw [hk s he, oread_put_other d (fun h => he h.2)]; exact h r' s
  · rw [Function.update_of_ne hr, oread_put_other d (fun h => hr h.1)]; exact h r' s

end Cert.RingProof

end
-- ==== Proof.Protocol.lean ====
/-
  The protocol of the four rings.

  Each device has, for every ring, fourteen departure cells, fourteen arrival cells and one cell of credits, and one
  barrier cell.  A barrier cell is signalled once by each neighbour, with the word that the neighbour's receive slots
  are free.  A departure cell is raised by the transfer when the source has been read, and hands the source back.  An
  arrival cell is raised by the transfer from the device before on the ring, and hands over the slot with the block in it.
  A credits cell is signalled eleven times by the device after on the ring, once for each slot it has freed again.
-/
module

public import proofs.«01_k».proof.Proof.Vals
public import Idealize.ShloMosaic.Lib.Pipeline.Launch
public import Idealize.ShloMosaic.Lib.Pipeline.Kit
public import Idealize.ShloMosaic.Lib.Tactic
public import Idealize.ShloMosaic.Lib.Release
public import Idealize.ShloMosaic.Lib.SparseCore.ProtocolKit

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ sum_finFrom_succ)
open Idealize.ShloMosaic.Release (USlots)

variable {F : FTy → Type} [FloatOps F]

/-! ## The algebra -/

/-- A receive slot: its device, its ring, its place. -/
abbrev SK : Type := Dev nD × (Fin 4 × Fin 3)
abbrev UB : Type := URounds (GSem nD τ sig) ℕ
abbrev UC : Type := UB × USlots SK
abbrev UU : Type := UR sig nD τ × UC

local notation "𝕄" => MT nD τ sig ℕ (Elt F) ℕ UU ℕ

abbrev EP : Emb (UR sig nD τ) (MT nD τ sig ℕ (Elt F) ℕ UU ℕ) := embL
abbrev EC : Emb UC (MT nD τ sig ℕ (Elt F) ℕ UU ℕ) := embR
abbrev ER : Emb UB (MT nD τ sig ℕ (Elt F) ℕ UU ℕ) := (Emb.inl : Emb UB UC).trans EC
abbrev ES : Emb (USlots SK) (MT nD τ sig ℕ (Elt F) ℕ UU ℕ) := (Emb.inr : Emb (USlots SK) UC).trans EC

/-! ## The cells -/

/-- The cells of a device that are the kernel's own: departures, arrivals, credits. -/
abbrev OK : Type := (Fin 4 × Fin 14) ⊕ ((Fin 4 × Fin 14) ⊕ Fin 4)
/-- All of them: the barrier, then its own. -/
abbrev CK : Type := Unit ⊕ OK

abbrev kBar : CK := .inl ()
abbrev kSnd (r : Fin 4) (u : Fin 14) : CK := .inr (.inl (r, u))
abbrev kRcv (r : Fin 4) (u : Fin 14) : CK := .inr (.inr (.inl (r, u)))
abbrev kCrd (r : Fin 4) : CK := .inr (.inr (.inr r))

/-- The semaphore of an own cell, -/
def osem : OK → SemLoc sig
  | .inl x => .dma (sndSem x.1 x.2)
  | .inr (.inl x) => .dma (rcvSem x.1 x.2)
  | .inr (.inr r) => .reg (crdSem r)
/-- of any cell. -/
def csem : CK → SemLoc sig
  | .inl _ => .reg barSem
  | .inr k => osem k

/-- Which cell a semaphore is. -/
def cls : SemLoc sig → Option CK
  | .dma q =>
    if 5 ≤ q.val ∧ q.val < 61 then some (kSnd (Fin.ofNat 4 ((q.val - 5) / 14)) (Fin.ofNat 14 ((q.val - 5) % 14)))
    else if 61 ≤ q.val then some (kRcv (Fin.ofNat 4 ((q.val - 61) / 14)) (Fin.ofNat 14 ((q.val - 61) % 14)))
    else none
  | .reg s => if s = barSem then some kBar else some (kCrd (Fin.ofNat 4 s.val))

theorem cls_csem : ∀ k : CK, cls (csem k) = some k := by decide +kernel
theorem csem_inj : Function.Injective csem := fun k k' h => Option.some.inj (by rw [← cls_csem k, ← cls_csem k', h])

/-- A cell. -/
abbrev cell (d : Dev nD) (k : CK) : GSem nD τ sig := ((d : Thread nD τ), csem k)
theorem cell_inj {d d' : Dev nD} {k k' : CK} (h : cell d k = cell d' k') : d = d' ∧ k = k' :=
  ⟨by have := congrArg (fun g : GSem nD τ sig => g.1.1) h; exact this, csem_inj (congrArg Prod.snd h)⟩

/-- The bytes' worth of a block. -/
def N : ℕ := (coS 0 0).view.dmaCredit
theorem N_pos : 0 < N := View.dmaCredit_pos _ (by decide)

/-! ## The neighbours -/

theorem rgt_lft : ∀ d : Dev nD, rgt (lft d) = d := by decide +kernel
theorem lft_rgt : ∀ d : Dev nD, lft (rgt d) = d := by decide +kernel
theorem nxt_prv : ∀ (r : Fin 4) (d : Dev nD), nxt r (prv r d) = d := by decide +kernel
theorem prv_nxt : ∀ (r : Fin 4) (d : Dev nD), prv r (nxt r d) = d := by decide +kernel

/-! ## What is handed over -/

/-- Elements of a receive slot, -/
abbrev coPts (d : Dev nD) (r : Fin 4) (j : Fin 3) (q : PosShare TreeShare) (f : Buf (Elt F) ((coS r j).view.loc (d : Thread nD τ))) : sProp 𝕄 :=
  (coS r j).view.loc (d : Thread nD τ) ↦[(coS r j).view.set]{q} f
/-- of a stage slot. -/
abbrev stPts (d : Dev nD) (r : Fin 4) (j : Fin 3) (q : PosShare TreeShare) (f : Buf (Elt F) ((stS r j).view.loc (d : Thread nD τ))) : sProp 𝕄 :=
  (stS r j).view.loc (d : Thread nD τ) ↦[(stS r j).view.set]{q} f

/-- A receive slot with anything in it. -/
def coAny (d : Dev nD) (r : Fin 4) (j : Fin 3) : sProp 𝕄 := Release.slot ((coS r j).view.loc (d : Thread nD τ)) (coS r j).view.set
/-- A share of it. -/
def coSome (d : Dev nD) (r : Fin 4) (j : Fin 3) (q : PosShare TreeShare) : sProp 𝕄 := iprop(∃ f, coPts d r j q f)
/-- A stage slot with anything in it. -/
def stAny (d : Dev nD) (r : Fin 4) (j : Fin 3) : sProp 𝕄 := iprop(∃ f, stPts d r j fullShare f)
/-- A share of a receive slot with the block `v` in it. -/
def coHas (d : Dev nD) (r : Fin 4) (j : Fin 3) (q : PosShare TreeShare) (v : Vec F S1x1x512x512 .bf16) : sProp 𝕄 :=
  iprop(∃ f, ⌜cM.view.readAt (Elt F) (slotR r j).toLoadRect f = v⌝ ∗ coPts d r j q f)

instance coAny_storable (d : Dev nD) (r : Fin 4) (j : Fin 3) : BI.Storable (upEmb : UEmb _ 𝕄) (coAny (F := F) d r j) := by unfold coAny; infer_instance
instance coSome_storable (d : Dev nD) (r : Fin 4) (j : Fin 3) (q) : BI.Storable (upEmb : UEmb _ 𝕄) (coSome (F := F) d r j q) := by
  unfold coSome; infer_instance
instance stAny_storable (d : Dev nD) (r : Fin 4) (j : Fin 3) : BI.Storable (upEmb : UEmb _ 𝕄) (stAny (F := F) d r j) := by unfold stAny; infer_instance
instance coHas_storable (d : Dev nD) (r : Fin 4) (j : Fin 3) (q) (v) : BI.Storable (upEmb : UEmb _ 𝕄) (coHas (F := F) d r j q v) := by
  unfold coHas; infer_instance

/-- A slot of a device freed `n` times. -/
abbrev freed (d : Dev nD) (r : Fin 4) (j : Fin 3) (n : ℕ) : sProp 𝕄 := Release.released ES ((d, (r, j)) : SK) n
/-- All its slots free at the start. -/
def ready (d : Dev nD) : sProp 𝕄 := bigSep Finset.univ fun x : Fin 4 × Fin 3 => freed d x.1 x.2 1
/-- The credits below `n` of the device `d` of ring `r`: the slots they free. -/
def credsUpTo (d : Dev nD) (r : Fin 4) (n : ℕ) : sProp 𝕄 := bigSep (finUpTo 11 n) fun k : Fin 11 => freed d r (slotOf k.val) (k.val / 3 + 2)

instance ready_storable (d : Dev nD) : BI.Storable (upEmb : UEmb _ 𝕄) (ready (F := F) d) := by unfold ready; infer_instance
instance ready_persistent (d : Dev nD) : BI.Persistent (ready (F := F) d) := by unfold ready; infer_instance
instance credsUpTo_storable (d : Dev nD) (r : Fin 4) (n : ℕ) : BI.Storable (upEmb : UEmb _ 𝕄) (credsUpTo (F := F) d r n) := by
  unfold credsUpTo; infer_instance
instance credsUpTo_persistent (d : Dev nD) (r : Fin 4) (n : ℕ) : BI.Persistent (credsUpTo (F := F) d r n) := by
  unfold credsUpTo; infer_instance

/-- What a departed hop hands back: a stage slot, or the share of the receive slot it was sent on from. -/
def sndPay (d : Dev nD) (r : Fin 4) (u : ℕ) : sProp 𝕄 := if u < 8 then stAny d r (slotOf u) else coSome d r (slotOf (u - 1)) fullShare.right

variable (I : Inp F)

/-- What each cell hands over. -/
def pay (d : Dev nD) : Option CK → ℕ → sProp 𝕄
  | none, _ => iprop(emp)
  | some (.inl _), k => ready (if k = 0 then lft d else rgt d)
  | some (.inr (.inl x)), _ => sndPay d x.1 x.2.val
  | some (.inr (.inr (.inl x))), _ => coHas d x.1 (slotOf x.2.val) fullShare (hv I x.1 x.2.val (prv x.1 d))
  | some (.inr (.inr (.inr r))), k => credsUpTo (nxt r d) r (k + 1)

instance pay_storable (d : Dev nD) (o : Option CK) (k : ℕ) : BI.Storable (upEmb : UEmb _ 𝕄) (pay I d o k) := by
  rcases o with _ | (_ | x | x | r)
  · unfold pay; infer_instance
  · unfold pay; infer_instance
  · show BI.Storable _ (sndPay d x.1 x.2.val); unfold sndPay; split <;> infer_instance
  · unfold pay; infer_instance
  · unfold pay; infer_instance

/-- The duties of a cell's one round. -/
def dutiesOf : Option CK → Finset ℕ
  | none => ∅
  | some (.inl _) => Finset.range 2
  | some (.inr (.inl _)) => {0}
  | some (.inr (.inr (.inl _))) => {0}
  | some (.inr (.inr (.inr _))) => Finset.range 11
/-- What each is worth. -/
def amountOf : Option CK → ℕ
  | some (.inr (.inl _)) => N
  | some (.inr (.inr (.inl _))) => N
  | _ => 1
theorem amountOf_pos (o : Option CK) : 0 < amountOf o := by
  rcases o with _ | (_ | x | x | r) <;> first | exact Nat.one_pos | exact N_pos

/-- The schedule: one round at every cell. -/
def Rd : Rounds.Schedule (GSem nD τ sig) ℕ 𝕄 where
  duties g r := if r = 0 ∧ g.1.2 = .tc then dutiesOf (cls g.2) else ∅
  unitless _ := False
  amount g _ _ := amountOf (cls g.2)
  payload g _ k := pay I g.1.1 (cls g.2) k
  amount_pos g _ _ _ := amountOf_pos _

instance Rd_payload_storable (g : GSem nD τ sig) (r : ℕ) (k : ℕ) : BI.Storable (upEmb : UEmb _ 𝕄) ((Rd I).payload g r k) :=
  pay_storable I _ _ _

theorem Rd_duties (d : Dev nD) (k : CK) : (Rd I).duties (cell d k) 0 = dutiesOf (some k) := by
  show (if (0 : ℕ) = 0 ∧ ((d : Thread nD τ).2 = .tc) then dutiesOf (cls (csem k)) else ∅) = _
  rw [if_pos ⟨rfl, rfl⟩, cls_csem]
theorem Rd_later (g : GSem nD τ sig) (r : ℕ) (h : 0 + 1 ≤ r) : (Rd I).duties g r = ∅ := if_neg fun h' => by omega
theorem Rd_amount (d : Dev nD) (k : CK) (r i : ℕ) : (Rd I).amount (cell d k) r i = amountOf (some k) := by
  show amountOf (cls (csem k)) = _; rw [cls_csem]
theorem Rd_payload (d : Dev nD) (k : CK) (r i : ℕ) : (Rd I).payload (cell d k) r i = pay I d (some k) i := by
  show pay I d (cls (csem k)) i = _; rw [cls_csem]
theorem Rd_expect (d : Dev nD) (k : CK) : (Rd I).expect (cell d k) 0 = (dutiesOf (some k)).card * amountOf (some k) := by
  unfold Schedule.expect Schedule.amountOf
  rw [Rd_duties, Finset.sum_congr rfl fun i _ => Rd_amount I d k 0 i, Finset.sum_const, smul_eq_mul]

end Cert.RingProof

end
-- ==== Proof.Steps.lean ====
/-
  The steps of a ring: a departure, the wait for a hop, a credit given, a credit taken.
-/
module

public import proofs.«01_k».proof.Proof.Protocol

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ sum_finFrom_succ)
open Idealize.ShloMosaic.Release (USlots)

variable {F : FTy → Type} [FloatOps F]

local notation "𝕄" => MT nD τ sig ℕ (Elt F) ℕ UU ℕ

/-! ## Levels -/

/-- A unit owed is waited for at the level its index says: departures 0, the barrier 1, hop `u`'s arrival `2u + 2`, credit
    `k` at `2k + 5`. -/
def lv (_ : GSem nD τ sig) (ι : ℕ) : ℕ := ι
def L (g : GSem nD τ sig) : Finset ℕ := if g.1.2 = .tc then Finset.range 64 else ∅
theorem L_of_ne (g : GSem nD τ sig) (h : g.1.2 ≠ .tc) : L g = ∅ := if_neg h

/-- Everything owed is above level `b`. -/
def Above (b : ℕ) (O : CellTallies nD τ sig ℕ) : Prop := ∀ g ι, 0 < O g ι → g.1.2 = .tc ∧ b < ι ∧ ι < 64

theorem Above.zero (b : ℕ) : Above b 0 := fun g ι h => absurd h (Nat.lt_irrefl 0)
theorem Above.add {b : ℕ} {O O' : CellTallies nD τ sig ℕ} (h : Above b O) (h' : Above b O') : Above b (O + O') := fun g ι hp => by
  rw [Pi.add_apply, Finsupp.add_apply] at hp
  rcases Nat.eq_zero_or_pos (O g ι) with h0 | h0
  · exact h' g ι (by omega)
  · exact h g ι h0
theorem Above.sum {b : ℕ} {A : Type} {S : Finset A} {f : A → CellTallies nD τ sig ℕ} (h : ∀ a ∈ S, Above b (f a)) : Above b (∑ a ∈ S, f a) :=
  Finset.sum_induction f (Above b) (fun _ _ => Above.add) (Above.zero b) h
theorem Above.tally {b : ℕ} (d : Dev nD) (k : CK) {ι : ℕ} (n : ℕ) (h : b < ι) (h' : ι < 64) : Above b (tallyAt (cell d k) ι n) := fun g ι' hp => by
  rw [tallyAt_apply] at hp
  by_cases he : g = cell d k ∧ ι' = ι
  · obtain ⟨rfl, rfl⟩ := he; exact ⟨rfl, h, h'⟩
  · rw [if_neg he] at hp; exact absurd hp (Nat.lt_irrefl 0)
theorem Above.mono {b b' : ℕ} {O : CellTallies nD τ sig ℕ} (h : Above b O) (hb : b' ≤ b) : Above b' O := fun g ι hp =>
  ⟨(h g ι hp).1, lt_of_le_of_lt hb (h g ι hp).2.1, (h g ι hp).2.2⟩

theorem mayWait (d : Dev nD) (sm : SemLoc sig) {ι : ℕ} (hι : ι < 64) {O : CellTallies nD τ sig ℕ} (h : Above ι O) :
    (levAts L lv : sProp 𝕄) ⊢ MayWait (d : Thread nD τ) sm ι O :=
  MayOwe.of_cut (L := L) (lev := lv) ι
    (fun p hp => by rw [Finset.mem_singleton.mp hp]; unfold L; rw [if_pos rfl]; exact Finset.mem_range.mpr hι)
    (fun g u hg => by unfold L; rw [if_pos (h g u hg).1]; exact Finset.mem_range.mpr (h g u hg).2.2)
    (fun p hp => by rw [Finset.mem_singleton.mp hp]; exact le_refl _)
    (fun g u hg => (h g u hg).2.1)

/-! ## The context -/

variable (I : Inp F)

/-- What every device knows: the invariants of all cells and of all receive slots, that every cell's round is open, the levels. -/
def ctx (K : Dev nD × CK → ℕ) (J : SK → ℕ) : sProp 𝕄 :=
  iprop((bigSep Finset.univ fun x : Dev nD × CK => cellInv ER (Rd I) (K x) (cell x.1 x.2))
    ∗ (bigSep Finset.univ fun x : Dev nD × CK => reached ER (cell x.1 x.2) 0)
    ∗ (bigSep Finset.univ fun k : SK => Release.slotInv ES (J k) k (coAny k.1 k.2.1 k.2.2))
    ∗ levAts L lv)

instance ctx_persistent (K : Dev nD × CK → ℕ) (J : SK → ℕ) : BI.Persistent (ctx I K J) := by unfold ctx; infer_instance

variable (K : Dev nD × CK → ℕ) (J : SK → ℕ)

theorem bsel {A : Type} [Fintype A] [DecidableEq A] (Φ : A → sProp 𝕄) (a : A) : bigSep Finset.univ Φ ⊢ Φ a := bigSep_elim (Finset.mem_univ a)

theorem ctx_inv (d : Dev nD) (k : CK) : ctx I K J ⊢ cellInv ER (Rd I) (K (d, k)) (cell d k) := by
  unfold ctx
  iintro ⟨H, -⟩
  iapply (bsel (fun x : Dev nD × CK => cellInv ER (Rd I) (K x) (cell x.1 x.2)) (d, k))
  iexact H
theorem ctx_reached (d : Dev nD) (k : CK) : ctx I K J ⊢ reached ER (cell d k) 0 := by
  unfold ctx
  iintro ⟨-, H, -⟩
  iapply (bsel (fun x : Dev nD × CK => (reached ER (cell x.1 x.2) 0 : sProp 𝕄)) (d, k))
  iexact H
theorem ctx_slot (d : Dev nD) (r : Fin 4) (j : Fin 3) : ctx I K J ⊢ Release.slotInv ES (J (d, (r, j))) ((d, (r, j)) : SK) (coAny d r j) := by
  unfold ctx
  iintro ⟨-, -, H, -⟩
  iapply (bsel (fun k : SK => (Release.slotInv ES (J k) k (coAny k.1 k.2.1 k.2.2) : sProp 𝕄)) (d, (r, j)))
  iexact H
theorem ctx_lev : ctx I K J ⊢ (levAts L lv : sProp 𝕄) := by
  unfold ctx
  iintro ⟨-, -, -, H⟩
  iexact H

abbrev 𝒱₀ : Variants := Variants.none

/-- A program of device `d` run to `Kt`. -/
abbrev wpd {α : Type} (d : Dev nD) (p : Prog (TpuEff nD τ sig (Elt F) Λ₀ .tc) α) (Kt : α → sProp 𝕄) : sProp 𝕄 :=
  wp frame (wpE (defs₀ (F := F)) 𝒱₀ (d : Thread nD τ) none) Set.univ p Kt

theorem wpd_bind {α β : Type} (d : Dev nD) (p : Prog (TpuEff nD τ sig (Elt F) Λ₀ .tc) α) (k : α → Prog (TpuEff nD τ sig (Elt F) Λ₀ .tc) β)
    (Kt : β → sProp 𝕄) : wpd d (p >>= k) Kt = wpd d p fun a => wpd d (k a) Kt := wp_bind _ _ _ _ _ _

/-- What a device owes, whatever it has waited for. -/
def ow (d : Dev nD) (O : CellTallies nD τ sig ℕ) : sProp 𝕄 := iprop(∃ W, owes (d : Thread nD τ) O W)

/-! ## Loads and stores alone -/

theorem wpd_load (d : Dev nD) {cs : CoreSpace} {s : Shape} {e : EltTy} {m : Memref sig .tc cs s e} {r : LoadRect s} {hl : m.view.LoadsAt r}
    {S : Finset (Idx (m.view.loc (d : Thread nD τ)))} {q : PosShare TreeShare} {f : Buf (Elt F) (m.view.loc (d : Thread nD τ))}
    (hS : m.view.setOn r.set ⊆ S) (Kt : (r.shape.Idx → Elt F e) → sProp 𝕄) :
    (m.view.loc (d : Thread nD τ) ↦[S]{q} f)
      ⊢ iprop(((m.view.loc (d : Thread nD τ) ↦[S]{q} f) -∗ Kt (m.view.readAt (Elt F) r f)) -∗ wpd d (Prog.lift (.load m r hl)) Kt) := by
  unfold wpd Prog.lift
  iintro H Hk
  iapply (wp_load 𝒱₀ (d : Thread nD τ) none Set.univ hS) $$ H
  iintro H
  rw [wp_ret]; imodintro
  iapply Hk; iexact H

theorem wpd_store (d : Dev nD) {cs : CoreSpace} {s : Shape} {e : EltTy} {m : Memref sig .tc cs s e} {r : Rect s} {w : r.shape.Idx → Elt F e}
    {hx : (m.access r).Stores Finset.univ} {hm}
    {S : Finset (Idx ((m.access r).loc (d : Thread nD τ)))} {f : Buf (Elt F) ((m.access r).loc (d : Thread nD τ))}
    (hS : (m.access r).set ⊆ S) (Kt : PUnit → sProp 𝕄) :
    ((m.access r).loc (d : Thread nD τ) ↦[S]{fullShare} f)
      ⊢ iprop((((m.access r).loc (d : Thread nD τ) ↦[S]{fullShare} (m.access r).write (Elt F) f w Finset.univ) -∗ Kt ⟨⟩)
        -∗ wpd d (Prog.lift (.store m r w Finset.univ hx hm)) Kt) := by
  unfold wpd Prog.lift
  iintro H Hk
  iapply (wp_store 𝒱₀ (d : Thread nD τ) none Set.univ hS) $$ H
  iintro H
  rw [wp_ret]; imodintro
  iapply Hk; iexact H

/-! ## A departure -/

/-- Hop `u` leaves: the slot it lands in is free `u / 3 + 1` times over, and the source comes back with the departure. -/
theorem wpd_start (d : Dev nD) (r : Fin 4) (u : Fin 14) (src : Memref sig .tc .vmem S512x512 .bf16) (h : src.view.WordExact)
    {q : PosShare TreeShare} (fs : Buf (Elt F) (src.view.loc (d : Thread nD τ)))
    (hfs : src.view.read (Elt F) fs = sq (hv I r u.val d))
    (hpay : (src.view.loc (d : Thread nD τ) ↦[src.view.set]{q} fs : sProp 𝕄) ⊢ sndPay d r u.val)
    (O : CellTallies nD τ sig ℕ) (Kt : PUnit → sProp 𝕄) :
    iprop(ctx I K J ∗ ow d (O + tallyAt (cell (nxt r d) (kRcv r u)) (2 * u.val + 2) N)
        ∗ (dutyTok ER (cell d (kSnd r u)) 0 0 ∗ dutyTok ER (cell (nxt r d) (kRcv r u)) 0 0
          ∗ Release.writeTok ES ((nxt r d, (r, slotOf u.val)) : SK) (u.val / 3 + 1))
        ∗ freed (nxt r d) r (slotOf u.val) (u.val / 3 + 1)
        ∗ (src.view.loc (d : Thread nD τ) ↦[src.view.set]{q} fs))
      ⊢ iprop(((cred (tallyAt (cell d (kSnd r u)) 0 N) ∗ ow d O) -∗ Kt ⟨⟩) -∗ wpd d (start d r u src h) Kt) := by
  iintro ⟨#Hc, Ho, ⟨Ht1, Ht2, Hw⟩, #Hf, Hsrc⟩ Hk
  unfold ow
  icases Ho with ⟨%W, Ho⟩
  ihave #Hi1 := (ctx_inv I K J d (kSnd r u)) $$ Hc
  ihave #Hi2 := (ctx_inv I K J (nxt r d) (kRcv r u)) $$ Hc
  ihave #Hr1 := (ctx_reached I K J d (kSnd r u)) $$ Hc
  ihave #Hr2 := (ctx_reached I K J (nxt r d) (kRcv r u)) $$ Hc
  ihave #Hs := (ctx_slot I K J (nxt r d) r (slotOf u.val)) $$ Hc
  imod (Release.slot_take ES (Set.mem_univ _) (u.val / 3 + 1)) $$ [Hw] with Hslot
  · isplitr; · iexact Hs
    isplitr; · iexact Hf
    iexact Hw
  unfold coAny Release.slot
  icases Hslot with ⟨%fd, Hdst⟩
  unfold start Prog.lift
  iapply (Rounds.wp_send_pointsTo 𝒱₀ ER (Rd I) (d : Thread nD τ) none (c' := (nxt r d : Thread nD τ)) (κ₁ := K (d, kSnd r u)) (κ₂ := K (nxt r d, kRcv r u))
    (r₁ := 0) (r₂ := 0) (d₁ := 0) (d₂ := 0) (fd := fd) (src := src) (dst := coS r (slotOf u.val)) (sS := .dma (sndSem r u)) (sem := .dma (rcvSem r u))
    (by rw [show ((d : Thread nD τ), SemLoc.dma (sndSem r u)) = cell d (kSnd r u) from rfl, Rd_duties]; exact Finset.mem_singleton_self _)
    (by rw [show ((nxt r d : Thread nD τ), SemLoc.dma (rcvSem r u)) = cell (nxt r d) (kRcv r u) from rfl, Rd_duties]; exact Finset.mem_singleton_self _)
    (2 * u.val + 2) 0 N rfl (Rd_amount I d (kSnd r u) 0 0) (Rd_amount I (nxt r d) (kRcv r u) 0 0) O rfl (W := W)
    (by rw [show ((d : Thread nD τ), SemLoc.dma (sndSem r u)) = cell d (kSnd r u) from rfl, Rd_payload]; exact hpay)
    (by
      rw [show ((nxt r d : Thread nD τ), SemLoc.dma (rcvSem r u)) = cell (nxt r d) (kRcv r u) from rfl, Rd_payload]
      show _ ⊢ coHas (nxt r d) r (slotOf u.val) fullShare (hv I r u.val (prv r (nxt r d)))
      rw [prv_nxt]
      unfold coHas
      iintro H
      iexists _
      isplitr
      rotate_left
      · iexact H
      ipureintro
      refine sq_inj ?_
      rw [← co_read, View.read_write_univ, hfs])) $$ [Ht1 Ht2 Hsrc Hdst Ho]
  · isplitr; · iexact Hi1
    isplitr; · iexact Hi2
    isplitl [Hsrc]; · iexact Hsrc
    isplitl [Hdst]; · iexact Hdst
    isplitl [Ho]; · iexact Ho
    isplitl [Ht1]; · iexact Ht1
    isplitr; · iexact Hr1
    isplitl [Ht2]; · iexact Ht2
    iexact Hr2
  iintro ⟨Hcr, Ho⟩
  rw [wp_ret]; imodintro
  iapply Hk
  isplitl [Hcr]; · iexact Hcr
  iexists W; iexact Ho

/-! ## Waits -/

theorem rest_eq (d : Dev nD) (k : CK) (T : Finset ℕ) :
    (bigSep ((Rd I).duties (cell d k) 0 \ T) fun i => (Rd I).payload (cell d k) 0 i) = bigSep (dutiesOf (some k) \ T) fun i => pay I d (some k) i := by
  rw [Rd_duties]; exact bigSep_congr fun i _ => Rd_payload I d k 0 i

/-- A wait that takes all that is left of a cell's round: the cell is at rest after it, at zero. -/
theorem wpd_wait (d : Dev nD) (k : CK) {ι A m : ℕ} {T : Finset ℕ} (w : TpuEff nD τ sig (Elt F) Λ₀ .tc PUnit)
    (hw : ∀ Q : PUnit → sProp 𝕄, wpE (defs₀ (F := F)) 𝒱₀ (d : Thread nD τ) none Set.univ w Q = waitSpec (d : Thread nD τ) Set.univ (csem k) A Q)
    (hA : m + A = (dutiesOf (some k)).card * amountOf (some k)) (hι : ι < 64) {O : CellTallies nD τ sig ℕ} (hO : Above ι O)
    (Kt : PUnit → sProp 𝕄) :
    iprop(ctx I K J ∗ cred (tallyAt (cell d k) ι A) ∗ atPos ER (cell d k) 0 T m ∗ ow d O)
      ⊢ iprop(((ow d O ∗ semVal (cell d k) 0 ∗ bigSep (dutiesOf (some k) \ T) fun i => pay I d (some k) i) -∗ Kt ⟨⟩)
        -∗ wpd d (Prog.lift w) Kt) := by
  iintro ⟨#Hc, Hcr, Hat, Ho⟩ Hk
  unfold ow
  icases Ho with ⟨%W, Ho⟩
  ihave #Hi := (ctx_inv I K J d k) $$ Hc
  ihave #Hl := (ctx_lev I K J) $$ Hc
  unfold wpd Prog.lift
  iapply (wp_wait_rest_token 𝒱₀ ER (Rd I) (d : Thread nD τ) none (κ := K (d, k)) hw (Set.mem_univ _) ι (O := O) (W := W) (R := 0) (m := m) (T := T)
    (by rw [Rd_expect]; exact hA)) $$ [Hcr Hat Ho]
  · isplitr; · iexact Hi
    isplitl [Hcr]; · iexact Hcr
    isplitl [Ho]; · iexact Ho
    isplitr; · iapply (mayWait d (csem k) hι hO); iexact Hl
    iexact Hat
  iintro ⟨Ho, Hat, -, Hp⟩
  imod (Rounds.cell_close ER (Rd I) (Set.mem_univ (K (d, k))) (fun h => h) (R := 0 + 1) (Rd_later I (cell d k))) $$ [Hat] with Hz
  · isplitr; · iexact Hi
    iexact Hat
  rw [wp_ret]; imodintro
  iapply Hk
  isplitl [Ho]; · iexists _; iexact Ho
  isplitl [Hz]; · iexact Hz
  iapply (Entails.of_eq (rest_eq I d k T))
  iexact Hp

theorem hop_all (o : Option CK) (h : dutiesOf o = {0}) (h' : amountOf o = N) : 0 + N = (dutiesOf o).card * amountOf o := by
  rw [h, h', Finset.card_singleton, Nat.one_mul, Nat.zero_add]
theorem snd_wait (d : Dev nD) (r : Fin 4) (u : Fin 14) (src dst : Memref sig .tc .vmem S512x512 .bf16) (h : src.view.WordExact) (h' : dst.view.WordExact)
    (Q : PUnit → sProp 𝕄) :
    wpE (defs₀ (F := F)) 𝒱₀ (d : Thread nD τ) none Set.univ (.waitDma2 (sndSem r u) src dst h h') Q
      = waitSpec (d : Thread nD τ) Set.univ (csem (kSnd r u)) N Q := wpE_waitDma2_eq 𝒱₀ (d : Thread nD τ) none Set.univ Q
theorem rcv_wait (d : Dev nD) (r : Fin 4) (u : Fin 14) (src dst : Memref sig .tc .vmem S512x512 .bf16) (h : src.view.WordExact) (h' : dst.view.WordExact)
    (Q : PUnit → sProp 𝕄) :
    wpE (defs₀ (F := F)) 𝒱₀ (d : Thread nD τ) none Set.univ (.waitDma2 (rcvSem r u) src dst h h') Q
      = waitSpec (d : Thread nD τ) Set.univ (csem (kRcv r u)) N Q := wpE_waitDma2_eq 𝒱₀ (d : Thread nD τ) none Set.univ Q

theorem snd_one (d : Dev nD) (r : Fin 4) (u : Fin 14) :
    (bigSep (dutiesOf (some (kSnd r u)) \ ∅) fun i => pay I d (some (kSnd r u)) i) = sndPay d r u.val := bigSep_singleton (i := 0)
theorem rcv_one (d : Dev nD) (r : Fin 4) (u : Fin 14) :
    (bigSep (dutiesOf (some (kRcv r u)) \ ∅) fun i => pay I d (some (kRcv r u)) i)
      = coHas d r (slotOf u.val) fullShare (hv I r u.val (prv r d)) := bigSep_singleton (i := 0)

/-- The wait for hop `u`: its source is back, and the neighbour's block is in the slot. -/
theorem wpd_waitHop (d : Dev nD) (r : Fin 4) (u : Fin 14) (src : Memref sig .tc .vmem S512x512 .bf16) (h : src.view.WordExact)
    {O : CellTallies nD τ sig ℕ} (hO : Above (2 * u.val + 2) O) (Kt : PUnit → sProp 𝕄) :
    iprop(ctx I K J ∗ cred (tallyAt (cell d (kSnd r u)) 0 N)
        ∗ (atPos ER (cell d (kSnd r u)) 0 ∅ 0 ∗ atPos ER (cell d (kRcv r u)) 0 ∅ 0 ∗ cred (tallyAt (cell d (kRcv r u)) (2 * u.val + 2) N)) ∗ ow d O)
      ⊢ iprop(((ow d O ∗ (semVal (cell d (kSnd r u)) 0 ∗ semVal (cell d (kRcv r u)) 0) ∗ sndPay d r u.val
          ∗ coHas d r (slotOf u.val) fullShare (hv I r u.val (prv r d))) -∗ Kt ⟨⟩)
        -∗ wpd d (waitHop r u src h) Kt) := by
  have hu := u.isLt
  iintro ⟨#Hc, Hcs, ⟨Hs, Hr, Hcr⟩, Ho⟩ Hk
  unfold waitHop
  rw [wpd_bind]
  iapply (wpd_wait I K J d (kSnd r u) (ι := 0) (A := N) (m := 0) (T := ∅) _ (snd_wait d r u _ _ _ _)
    (hop_all _ rfl rfl) (by decide) (hO.mono (Nat.zero_le _))) $$ [Hcs Hs Ho]
  · isplitr; · iexact Hc
    isplitl [Hcs]; · iexact Hcs
    isplitl [Hs]; · iexact Hs
    iexact Ho
  iintro ⟨Ho, Hz1, Hp1⟩
  iapply (wpd_wait I K J d (kRcv r u) (ι := 2 * u.val + 2) (A := N) (m := 0) (T := ∅) _ (rcv_wait d r u _ _ _ _)
    (hop_all _ rfl rfl) (by omega) hO) $$ [Hcr Hr Ho]
  · isplitr; · iexact Hc
    isplitl [Hcr]; · iexact Hcr
    isplitl [Hr]; · iexact Hr
    iexact Ho
  iintro ⟨Ho, Hz2, Hp2⟩
  iapply Hk
  isplitl [Ho]; · iexact Ho
  isplitl [Hz1 Hz2]; · isplitl [Hz1]; · iexact Hz1
                       iexact Hz2
  ihave Hp1 := (Entails.of_eq (snd_one I d r u)) $$ Hp1
  ihave Hp2 := (Entails.of_eq (rcv_one I d r u)) $$ Hp2
  isplitl [Hp1]; · iexact Hp1
  iexact Hp2

/-! ## Credits -/

theorem crd_pay (d : Dev nD) (r : Fin 4) (k : ℕ) : (Rd I).payload ((prv r d : Thread nD τ), SemLoc.reg (crdSem r)) 0 k = credsUpTo d r (k + 1) :=
  (Rd_payload I (prv r d) (kCrd r) 0 k).trans (congrArg (fun x => credsUpTo x r (k + 1)) (nxt_prv r d))
theorem bar_pay_lft (d : Dev nD) : (Rd I).payload ((lft d : Thread nD τ), SemLoc.reg barSem) 0 1 = ready d :=
  (Rd_payload I (lft d) kBar 0 1).trans (congrArg ready (rgt_lft d))
theorem bar_pay_rgt (d : Dev nD) : (Rd I).payload ((rgt d : Thread nD τ), SemLoc.reg barSem) 0 0 = ready d :=
  (Rd_payload I (rgt d) kBar 0 0).trans (congrArg ready (lft_rgt d))

/-- Credit `k` handed back: with it the word that the slots of all credits up to it are free. -/
theorem wpd_give (d : Dev nD) (r : Fin 4) (k : Fin 11) (O : CellTallies nD τ sig ℕ) (Kt : PUnit → sProp 𝕄) :
    iprop(ctx I K J ∗ ow d (O + tallyAt (cell (prv r d) (kCrd r)) (2 * k.val + 5) 1) ∗ dutyTok ER (cell (prv r d) (kCrd r)) 0 k.val
        ∗ credsUpTo d r (k.val + 1))
      ⊢ iprop((ow d O -∗ Kt ⟨⟩) -∗ wpd d (giveCredit d r) Kt) := by
  iintro ⟨#Hc, Ho, Ht, #Hp⟩ Hk
  unfold ow
  icases Ho with ⟨%W, Ho⟩
  ihave #Hi := (ctx_inv I K J (prv r d) (kCrd r)) $$ Hc
  ihave #Hr := (ctx_reached I K J (prv r d) (kCrd r)) $$ Hc
  unfold wpd giveCredit semSignalWord
  iapply (Rounds.wp_signal 𝒱₀ ER (Rd I) (d : Thread nD τ) none (dst := (prv r d : Thread nD τ)) (κ := K (prv r d, kCrd r)) (d := k.val)
    (by rw [show ((prv r d : Thread nD τ), SemLoc.reg (crdSem r)) = cell (prv r d) (kCrd r) from rfl, Rd_duties]; exact Finset.mem_range.mpr k.isLt)
    (Rd_amount I (prv r d) (kCrd r) 0 k.val) (2 * k.val + 5) O rfl) $$ [Ho Ht]
  · isplitr; · iexact Hi
    isplitl [Ho]; · iexact Ho
    isplitl [Ht]; · iexact Ht
    isplitl []
    · iapply (Entails.of_eq (crd_pay I d r k.val).symm); iexact Hp
    iexact Hr
  iintro Ho
  rw [wp_ret]; imodintro
  iapply Hk
  iexists W; iexact Ho

/-- A ring's credits with `m` of them taken. -/
def CrdSt (d : Dev nD) (r : Fin 4) (m : ℕ) : sProp 𝕄 :=
  if m = 11 then semVal (cell d (kCrd r)) 0
  else iprop(∃ T : Finset ℕ, atPos ER (cell d (kCrd r)) 0 T m ∗ bigSep T fun k => credsUpTo (nxt r d) r (k + 1))

theorem CrdSt_open (d : Dev nD) (r : Fin 4) {m : ℕ} (h : m ≠ 11) : (CrdSt d r m : sProp 𝕄)
    = iprop(∃ T : Finset ℕ, atPos ER (cell d (kCrd r)) 0 T m ∗ bigSep T fun k => credsUpTo (nxt r d) r (k + 1)) := if_neg h
theorem CrdSt_done (d : Dev nD) (r : Fin 4) {m : ℕ} (h : m = 11) : (CrdSt d r m : sProp 𝕄) = semVal (cell d (kCrd r)) 0 := if_pos h

/-- Credit `m` taken: its slot at the neighbour is free again. -/
theorem wpd_take (d : Dev nD) (r : Fin 4) (m : Fin 11) {O : CellTallies nD τ sig ℕ} (hO : Above (2 * m.val + 5) O) (Kt : PUnit → sProp 𝕄) :
    iprop(ctx I K J ∗ cred (tallyAt (cell d (kCrd r)) (2 * m.val + 5) 1) ∗ CrdSt d r m.val ∗ ow d O)
      ⊢ iprop(((ow d O ∗ CrdSt d r (m.val + 1) ∗ freed (nxt r d) r (slotOf m.val) (m.val / 3 + 2)) -∗ Kt ⟨⟩)
        -∗ wpd d (takeCredit r) Kt) := by
  have hm := m.isLt
  iintro ⟨#Hc, Hcr, Hst, Ho⟩ Hk
  ihave Hst := (Entails.of_eq (CrdSt_open d r (show m.val ≠ 11 by omega))) $$ Hst
  icases Hst with ⟨%T, Hat, #HT⟩
  have pick (S : Finset ℕ) (k : ℕ) (hk : k ∈ S) (hmk : m.val ≤ k) :
      (bigSep S fun k => credsUpTo (nxt r d) r (k + 1) : sProp 𝕄) ⊢ freed (nxt r d) r (slotOf m.val) (m.val / 3 + 2) :=
    (bigSep_elim hk).trans (bigSep_elim (mem_finUpTo.mpr (by omega)))
  rcases Nat.lt_or_ge m.val 10 with h | h
  · rw [CrdSt_open d r (show m.val + 1 ≠ 11 by omega)]
    unfold ow
    icases Ho with ⟨%W, Ho⟩
    ihave #Hi := (ctx_inv I K J d (kCrd r)) $$ Hc
    ihave #Hl := (ctx_lev I K J) $$ Hc
    unfold wpd takeCredit semWaitWord
    iapply (Rounds.wp_wait 𝒱₀ ER (Rd I) (d : Thread nD τ) none (κ := K (d, kCrd r)) (sm := csem (kCrd r)) (k' := 1)
      (wpE_semWait_eq 𝒱₀ (d : Thread nD τ) none Set.univ) (Set.mem_univ _)
      (cr := Finsupp.single (2 * m.val + 5) 1) (O := O) (W := W) {(csem (kCrd r), 2 * m.val + 5)} (R := 0) (m := m.val) (T := T)
      (by rw [Util.total_single]) (image_single_subset (csem (kCrd r)) (2 * m.val + 5) 1)) $$ [Hcr Hat Ho]
    · isplitr; · iexact Hi
      isplitl [Hcr]; · iexact Hcr
      isplitl [Ho]; · iexact Ho
      isplitr; · iapply (mayWait d (csem (kCrd r)) (show 2 * m.val + 5 < 64 by omega) hO); iexact Hl
      iexact Hat
    iintro %S ⟨%hS, Ho, Hat, Hp⟩
    rw [wp_ret]; imodintro
    iapply Hk
    isplitl [Ho]; · iexists _; iexact Ho
    have hS' := hS.2.1
    have hc := hS.2.2
    rw [show ((d : Thread nD τ), csem (kCrd r)) = cell d (kCrd r) from rfl, Rd_duties] at hS' hc
    rw [Rd_expect] at hc
    have hcard : (dutiesOf (some (kCrd r))).card = 11 := rfl
    have ha : amountOf (some (kCrd r)) = 1 := rfl
    rw [Finset.card_sdiff_of_subset hS', hcard, ha] at hc
    obtain ⟨k, hk, hmk⟩ : ∃ k ∈ S, m.val ≤ k := by
      by_contra hn
      have hsub : S ⊆ Finset.range m.val := fun k hk => Finset.mem_range.mpr (by
        by_contra hlt; exact hn ⟨k, hk, by omega⟩)
      have := Finset.card_le_card hsub
      rw [Finset.card_range] at this
      omega
    have e : (bigSep (S \ T) fun i => (Rd I).payload (cell d (kCrd r)) 0 i)
        = bigSep (S \ T) fun k => (credsUpTo (nxt r d) r (k + 1) : sProp 𝕄) := bigSep_congr fun i _ => Rd_payload I d (kCrd r) 0 i
    ihave HST := (Entails.of_eq e) $$ Hp
    have e' : (bigSep S fun k => credsUpTo (nxt r d) r (k + 1))
        = iprop((bigSep T fun k => credsUpTo (nxt r d) r (k + 1)) ∗ bigSep (S \ T) fun k => (credsUpTo (nxt r d) r (k + 1) : sProp 𝕄)) :=
      bigSep_sdiff_split hS.1
    ihave HS := (Entails.of_eq e'.symm) $$ [HST]
    · isplitr; · iexact HT
      iexact HST
    icases HS with #HS
    isplitl [Hat]
    · iexists S
      isplitl [Hat]; · iexact Hat
      iexact HS
    iapply (pick S k hk hmk)
    iexact HS
  · have h10 : m.val = 10 := by omega
    rw [CrdSt_done d r (show m.val + 1 = 11 by omega)]
    unfold takeCredit semWaitWord
    iapply (wpd_wait I K J d (kCrd r) (ι := 2 * m.val + 5) (A := 1) (m := m.val) (T := T) _ (wpE_semWait_eq 𝒱₀ (d : Thread nD τ) none Set.univ)
      (by show m.val + 1 = 11 * 1; omega) (by omega) hO) $$ [Hcr Hat Ho]
    · isplitr; · iexact Hc
      isplitl [Hcr]; · iexact Hcr
      isplitl [Hat]; · iexact Hat
      iexact Ho
    iintro ⟨Ho, Hz, Hp⟩
    iapply Hk
    isplitl [Ho]; · iexact Ho
    isplitl [Hz]; · iexact Hz
    by_cases hT : 10 ∈ T
    · iapply (pick T 10 hT (by omega)); iexact HT
    · iapply (pick (dutiesOf (some (kCrd r)) \ T) 10 (Finset.mem_sdiff.mpr ⟨Finset.mem_range.mpr (by decide), hT⟩) (by omega)); iexact Hp

/-! ## The handshake -/

theorem wpd_barrier (d : Dev nD) {O : CellTallies nD τ sig ℕ} (hO : Above 1 O) (Kt : PUnit → sProp 𝕄) :
    iprop(ctx I K J ∗ ow d (O + tallyAt (cell (rgt d) kBar) 1 1 + tallyAt (cell (lft d) kBar) 1 1)
        ∗ (dutyTok ER (cell (lft d) kBar) 0 1 ∗ dutyTok ER (cell (rgt d) kBar) 0 0 ∗ atPos ER (cell d kBar) 0 ∅ 0 ∗ cred (tallyAt (cell d kBar) 1 2))
        ∗ ready d)
      ⊢ iprop(((ow d O ∗ semVal (cell d kBar) 0 ∗ ready (lft d) ∗ ready (rgt d)) -∗ Kt ⟨⟩) -∗ wpd d (barrier d) Kt) := by
  iintro ⟨#Hc, Ho, ⟨Ht1, Ht2, Hat, Hcr⟩, #Hrdy⟩ Hk
  unfold ow
  icases Ho with ⟨%W, Ho⟩
  ihave #Hi1 := (ctx_inv I K J (lft d) kBar) $$ Hc
  ihave #Hr1 := (ctx_reached I K J (lft d) kBar) $$ Hc
  ihave #Hi2 := (ctx_inv I K J (rgt d) kBar) $$ Hc
  ihave #Hr2 := (ctx_reached I K J (rgt d) kBar) $$ Hc
  unfold barrier semSignalWord semWaitWord
  rw [wpd_bind]
  unfold wpd
  iapply (Rounds.wp_signal 𝒱₀ ER (Rd I) (d : Thread nD τ) none (dst := (lft d : Thread nD τ)) (κ := K (lft d, kBar)) (d := 1)
    (by rw [show ((lft d : Thread nD τ), SemLoc.reg barSem) = cell (lft d) kBar from rfl, Rd_duties]; decide)
    (Rd_amount I (lft d) kBar 0 1) 1 _ rfl) $$ [Ho Ht1]
  · isplitr; · iexact Hi1
    isplitl [Ho]; · iexact Ho
    isplitl [Ht1]; · iexact Ht1
    isplitr
    · iapply (Entails.of_eq (bar_pay_lft I d).symm); iexact Hrdy
    iexact Hr1
  iintro Ho
  rw [wp_ret]; imodintro
  rw [wp_bind]
  iapply (Rounds.wp_signal 𝒱₀ ER (Rd I) (d : Thread nD τ) none (dst := (rgt d : Thread nD τ)) (κ := K (rgt d, kBar)) (d := 0)
    (by rw [show ((rgt d : Thread nD τ), SemLoc.reg barSem) = cell (rgt d) kBar from rfl, Rd_duties]; decide)
    (Rd_amount I (rgt d) kBar 0 0) 1 O rfl) $$ [Ho Ht2]
  · isplitr; · iexact Hi2
    isplitl [Ho]; · iexact Ho
    isplitl [Ht2]; · iexact Ht2
    isplitr
    · iapply (Entails.of_eq (bar_pay_rgt I d).symm); iexact Hrdy
    iexact Hr2
  iintro Ho
  rw [wp_ret]; imodintro
  iapply (wpd_wait I K J d kBar (ι := 1) (A := 2) (m := 0) (T := ∅) _ (wpE_semWait_eq 𝒱₀ (d : Thread nD τ) none Set.univ)
    (by rfl) (by decide) hO) $$ [Hcr Hat Ho]
  · isplitr; · iexact Hc
    isplitl [Hcr]; · iexact Hcr
    isplitl [Hat]; · iexact Hat
    unfold ow; iexists W; iexact Ho
  iintro ⟨Ho, Hz, Hp⟩
  iapply Hk
  unfold ow
  isplitl [Ho]; · iexact Ho
  isplitl [Hz]; · iexact Hz
  have e : (bigSep (dutiesOf (some kBar) \ ∅) fun i => pay I d (some kBar) i) = iprop(ready (lft d) ∗ ready (rgt d) : sProp 𝕄) := by
    rw [show dutiesOf (some kBar) \ ∅ = insert 0 {1} from by decide, bigSep_insert (by decide), bigSep_singleton]
    rfl
  iapply (Entails.of_eq e)
  iexact Hp

end Cert.RingProof

end
-- ==== Proof.Ring.lean ====
/-
  A ring in the middle of the body: what a device holds of it after `n` of its stages, and the steps of a stage in those terms.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ sum_finFrom_succ)
open Idealize.ShloMosaic.Release (USlots)

variable {F : FTy → Type} [FloatOps F]

local notation "𝕄" => MT nD τ sig ℕ (Elt F) ℕ UU ℕ

/-! ## What is left of a ring -/

/-- What the hops from `n` on are paid with. -/
def toks (d : Dev nD) (r : Fin 4) (n : ℕ) : sProp 𝕄 :=
  bigSep (finFrom 14 n) fun u : Fin 14 => iprop(dutyTok ER (cell d (kSnd r u)) 0 0 ∗ dutyTok ER (cell (nxt r d) (kRcv r u)) 0 0
    ∗ Release.writeTok ES ((nxt r d, (r, slotOf u.val)) : SK) (u.val / 3 + 1))
/-- The waits for the hops from `n` on. -/
def pend (d : Dev nD) (r : Fin 4) (n : ℕ) : sProp 𝕄 :=
  bigSep (finFrom 14 n) fun u : Fin 14 => iprop(atPos ER (cell d (kSnd r u)) 0 ∅ 0 ∗ atPos ER (cell d (kRcv r u)) 0 ∅ 0
    ∗ cred (tallyAt (cell d (kRcv r u)) (2 * u.val + 2) N))
/-- The cells of the hops below `n`, at rest. -/
def past (d : Dev nD) (r : Fin 4) (n : ℕ) : sProp 𝕄 :=
  bigSep (finUpTo 14 n) fun u : Fin 14 => iprop(semVal (cell d (kSnd r u)) 0 ∗ semVal (cell d (kRcv r u)) 0)
/-- How often slot `j` has been freed when `c` credits are given. -/
def cnt (c : ℕ) (j : Fin 3) : ℕ := 1 + (c + 2 - j.val) / 3
/-- The giving side of a ring's credits, `c` of them given. -/
def giv (d : Dev nD) (r : Fin 4) (c : ℕ) : sProp 𝕄 :=
  iprop((bigSep (finFrom 11 c) fun k : Fin 11 => dutyTok ER (cell (prv r d) (kCrd r)) 0 k.val)
    ∗ (bigSep Finset.univ fun j : Fin 3 => Release.readerAt ES ((d, (r, j)) : SK) (cnt c j)) ∗ credsUpTo d r c)
/-- The taking side, `m` of them taken. -/
def tak (d : Dev nD) (r : Fin 4) (m : ℕ) : sProp 𝕄 :=
  iprop(CrdSt d r m ∗ bigSep (finFrom 11 m) fun k : Fin 11 => cred (tallyAt (cell d (kCrd r)) (2 * k.val + 5) 1))

/-- What a ring still owes: the arrivals of the hops from `a` on, the credits from `b` on. -/
def ringOw (r : Fin 4) (d : Dev nD) (a b : ℕ) : CellTallies nD τ sig ℕ :=
  (∑ u ∈ finFrom 14 a, tallyAt (cell (nxt r d) (kRcv r u)) (2 * u.val + 2) N) + ∑ k ∈ finFrom 11 b, tallyAt (cell (prv r d) (kCrd r)) (2 * k.val + 5) 1

theorem ringOw_above (r : Fin 4) (d : Dev nD) {k a b : ℕ} (ha : k ≤ a) (hb : k ≤ b + 2 ∨ 11 ≤ b) : Above (2 * k) (ringOw r d a b) :=
  (Above.sum fun u hu => by
      have h := mem_finFrom.mp hu
      have h' := u.isLt
      exact Above.tally _ _ _ (by omega) (by omega)).add
    (Above.sum fun u hu => by
      have h := mem_finFrom.mp hu
      have h' := u.isLt
      exact Above.tally _ _ _ (by omega) (by omega))

theorem ringOw_hop (r : Fin 4) (d : Dev nD) (u : Fin 14) (b : ℕ) :
    ringOw r d u.val b = ringOw r d (u.val + 1) b + tallyAt (cell (nxt r d) (kRcv r u)) (2 * u.val + 2) N := by
  unfold ringOw
  rw [sum_finFrom_succ u.isLt, add_right_comm]
theorem ringOw_crd (r : Fin 4) (d : Dev nD) (a : ℕ) (k : Fin 11) :
    ringOw r d a k.val = ringOw r d a (k.val + 1) + tallyAt (cell (prv r d) (kCrd r)) (2 * k.val + 5) 1 := by
  unfold ringOw
  rw [sum_finFrom_succ k.isLt, add_assoc]

variable (I : Inp F) (K : Dev nD × CK → ℕ) (J : SK → ℕ)

/-! ## The steps on those -/

/-- The wait for hop `u`. -/
theorem ring_wait (d : Dev nD) (r : Fin 4) (u : Fin 14) (src : Memref sig .tc .vmem S512x512 .bf16) (h : src.view.WordExact)
    {O : CellTallies nD τ sig ℕ} (hO : Above (2 * (u.val + 1)) O) (Kt : PUnit → sProp 𝕄) :
    iprop(ctx I K J ∗ ow d O ∗ cred (tallyAt (cell d (kSnd r u)) 0 N) ∗ pend d r u.val ∗ past d r u.val)
      ⊢ iprop(((ow d O ∗ sndPay d r u.val ∗ coHas d r (slotOf u.val) fullShare (hv I r u.val (prv r d)) ∗ pend d r (u.val + 1) ∗ past d r (u.val + 1)) -∗ Kt ⟨⟩)
        -∗ wpd d (waitHop r u src h) Kt) := by
  iintro ⟨#Hc, Ho, Hcr, Hp, Hq⟩ Hk
  unfold pend past
  ihave Hp := (Entails.of_eq (bigSep_finFrom_succ u.isLt _)) $$ Hp
  icases Hp with ⟨Hu, Hp⟩
  iapply (wpd_waitHop I K J d r u src h (hO.mono (by omega))) $$ [Ho Hcr Hu]
  · isplitr; · iexact Hc
    isplitl [Hcr]; · iexact Hcr
    isplitl [Hu]; · iexact Hu
    iexact Ho
  iintro ⟨Ho, Hz, Hs, Hh⟩
  iapply Hk
  isplitl [Ho]; · iexact Ho
  isplitl [Hs]; · iexact Hs
  isplitl [Hh]; · iexact Hh
  isplitl [Hp]; · iexact Hp
  iapply (Entails.of_eq (bigSep_finUpTo_succ u.isLt _).symm)
  isplitl [Hz]; · iexact Hz
  iexact Hq

/-- Hop `u`'s departure. -/
theorem ring_start (d : Dev nD) (r : Fin 4) (u : Fin 14) (src : Memref sig .tc .vmem S512x512 .bf16) (h : src.view.WordExact)
    {q : PosShare TreeShare} (fs : Buf (Elt F) (src.view.loc (d : Thread nD τ)))
    (hfs : src.view.read (Elt F) fs = sq (hv I r u.val d))
    (hpay : (src.view.loc (d : Thread nD τ) ↦[src.view.set]{q} fs : sProp 𝕄) ⊢ sndPay d r u.val)
    (Q : CellTallies nD τ sig ℕ) (b : ℕ) (Kt : PUnit → sProp 𝕄) :
    iprop(ctx I K J ∗ ow d (Q + ringOw r d u.val b) ∗ toks d r u.val ∗ freed (nxt r d) r (slotOf u.val) (u.val / 3 + 1)
        ∗ (src.view.loc (d : Thread nD τ) ↦[src.view.set]{q} fs))
      ⊢ iprop(((cred (tallyAt (cell d (kSnd r u)) 0 N) ∗ ow d (Q + ringOw r d (u.val + 1) b) ∗ toks d r (u.val + 1)) -∗ Kt ⟨⟩)
        -∗ wpd d (start d r u src h) Kt) := by
  rw [ringOw_hop r d u b, ← add_assoc]
  iintro ⟨#Hc, Ho, Ht, #Hf, Hs⟩ Hk
  unfold toks
  ihave Ht := (Entails.of_eq (bigSep_finFrom_succ u.isLt _)) $$ Ht
  icases Ht with ⟨Hu, Ht⟩
  iapply (wpd_start I K J d r u src h fs hfs hpay) $$ [Ho Hu Hs]
  · isplitr; · iexact Hc
    isplitl [Ho]; · iexact Ho
    isplitl [Hu]; · iexact Hu
    isplitr; · iexact Hf
    iexact Hs
  iintro ⟨Hcr, Ho⟩
  iapply Hk
  isplitl [Hcr]; · iexact Hcr
  isplitl [Ho]; · iexact Ho
  iexact Ht

theorem cnt_self (k : ℕ) : cnt k (slotOf k) = k / 3 + 1 := by
  unfold cnt slotOf
  show 1 + (k + 2 - k % 3) / 3 = _
  omega
theorem cnt_succ_self (k : ℕ) : cnt (k + 1) (slotOf k) = k / 3 + 1 + 1 := by
  unfold cnt slotOf
  show 1 + (k + 1 + 2 - k % 3) / 3 = _
  omega
theorem cnt_succ_other (k : ℕ) (j : Fin 3) (h : j ≠ slotOf k) : cnt (k + 1) j = cnt k j := by
  have h' : j.val ≠ k % 3 := fun e => h (Fin.ext e)
  have := j.isLt
  unfold cnt
  omega

theorem co_nonempty (r : Fin 4) (j : Fin 3) : (coS r j).view.set.Nonempty := View.set_nonempty (by decide)
theorem coAny_excl (d : Dev nD) (r : Fin 4) (j : Fin 3) : iprop(coAny d r j ∗ coAny d r j) ⊢ (False : sProp 𝕄) :=
  Release.slot_slot_false (ℓ := (coS r j).view.loc (d : Thread nD τ)) (co_nonempty r j)

/-- A slot freed and its credit handed back. -/
theorem ring_give (d : Dev nD) (r : Fin 4) (k : Fin 11) (Q : CellTallies nD τ sig ℕ) (a : ℕ) (Kt : PUnit → sProp 𝕄) :
    iprop(ctx I K J ∗ ow d (Q + ringOw r d a k.val) ∗ giv d r k.val ∗ coAny d r (slotOf k.val))
      ⊢ iprop(((ow d (Q + ringOw r d a (k.val + 1)) ∗ giv d r (k.val + 1)) -∗ Kt ⟨⟩) -∗ wpd d (giveCredit d r) Kt) := by
  rw [ringOw_crd r d a k, ← add_assoc]
  unfold giv
  iintro ⟨#Hc, Ho, ⟨Ht, Hr, #Hf⟩, Hs⟩ Hk
  ihave Hr := (bigSep_univ_update (Ψ := fun j : Fin 3 => (Release.readerAt ES ((d, (r, j)) : SK) (cnt (k.val + 1) j) : sProp 𝕄)) (slotOf k.val)
    (fun j hj => by rw [cnt_succ_other _ j hj])) $$ Hr
  icases Hr with ⟨Hj, Hr⟩
  ihave Hj := (Entails.of_eq (congrArg (fun n => (Release.readerAt ES ((d, (r, slotOf k.val)) : SK) n : sProp 𝕄)) (cnt_self k.val))) $$ Hj
  ihave #Hi := (ctx_slot I K J d r (slotOf k.val)) $$ Hc
  imod (Release.slot_release ES (Set.mem_univ _) (coAny_excl d r (slotOf k.val)) (k.val / 3 + 1)) $$ [Hj Hs] with ⟨Hj, #Hn⟩
  · isplitr; · iexact Hi
    isplitl [Hj]; · iexact Hj
    iexact Hs
  ihave Hj := (Entails.of_eq (congrArg (fun n => (Release.readerAt ES ((d, (r, slotOf k.val)) : SK) n : sProp 𝕄)) (cnt_succ_self k.val).symm)) $$ Hj
  ihave Hr := Hr $$ Hj
  ihave Ht := (Entails.of_eq (bigSep_finFrom_succ k.isLt _)) $$ Ht
  icases Ht with ⟨Hk', Ht⟩
  ihave #Hf' : credsUpTo d r (k.val + 1) $$ []
  · unfold credsUpTo
    iapply (Entails.of_eq (bigSep_finUpTo_succ k.isLt _).symm)
    isplitr; · iexact Hn
    iexact Hf
  iapply (wpd_give I K J d r k) $$ [Ho Hk']
  · isplitr; · iexact Hc
    isplitl [Ho]; · iexact Ho
    isplitl [Hk']; · iexact Hk'
    iexact Hf'
  iintro Ho
  iapply Hk
  isplitl [Ho]; · iexact Ho
  isplitl [Ht]; · iexact Ht
  isplitl [Hr]; · iexact Hr
  iexact Hf'

/-- Credit `m` taken. -/
theorem ring_take (d : Dev nD) (r : Fin 4) (m : Fin 11) {O : CellTallies nD τ sig ℕ} (hO : Above (2 * (m.val + 3)) O) (Kt : PUnit → sProp 𝕄) :
    iprop(ctx I K J ∗ ow d O ∗ tak d r m.val)
      ⊢ iprop(((ow d O ∗ tak d r (m.val + 1) ∗ freed (nxt r d) r (slotOf m.val) (m.val / 3 + 2)) -∗ Kt ⟨⟩)
        -∗ wpd d (takeCredit r) Kt) := by
  unfold tak
  iintro ⟨#Hc, Ho, Hst, Hcr⟩ Hk
  ihave Hcr := (Entails.of_eq (bigSep_finFrom_succ m.isLt _)) $$ Hcr
  icases Hcr with ⟨Hm, Hcr⟩
  iapply (wpd_take I K J d r m (hO.mono (by omega))) $$ [Ho Hst Hm]
  · isplitr; · iexact Hc
    isplitl [Hm]; · iexact Hm
    isplitl [Hst]; · iexact Hst
    iexact Ho
  iintro ⟨Ho, Hst, Hf⟩
  iapply Hk
  isplitl [Ho]; · iexact Ho
  isplitl [Hst Hcr]
  · isplitl [Hst]; · iexact Hst
    iexact Hcr
  iexact Hf

/-! ## The buffers -/

/-- The result's buffer. -/
abbrev oAt (d : Dev nD) (f : Buf (Elt F) (oM.view.loc (d : Thread nD τ))) : sProp 𝕄 := oM.view.loc (d : Thread nD τ) ↦[Finset.univ]{fullShare} f

theorem ring_getBlk (d : Dev nD) (r : Fin 4) (s : Fin 8) (f : Buf (Elt F) (oM.view.loc (d : Thread nD τ))) (Kt : Vec F S512x512 .f32 → sProp 𝕄) :
    oAt d f ⊢ iprop((oAt d f -∗ Kt (oread d r s f)) -∗ wpd d (getBlk d r s) Kt) :=
  wpd_load d (m := oM) (r := (oblk r d s).toLoadRect) (S := Finset.univ) (Finset.subset_univ _) Kt

theorem ring_putBlk (d : Dev nD) (r : Fin 4) (s : Fin 8) (v : Vec F S512x512 .f32) (f : Buf (Elt F) (oM.view.loc (d : Thread nD τ))) (Kt : PUnit → sProp 𝕄) :
    oAt d f ⊢ iprop((oAt d ((oM.access (oblk r d s)).write (Elt F) f v Finset.univ) -∗ Kt ⟨⟩) -∗ wpd d (putBlk d r s v) Kt) := by
  iintro H Hk
  unfold putBlk
  rw [wpd_bind]
  iapply (wpd_load d (m := oM) (r := (oblk r d s).toLoadRect) (S := Finset.univ) (Finset.subset_univ _)) $$ H
  iintro H
  iapply (wpd_store d (m := oM) (r := oblk r d s) (S := Finset.univ) (Finset.subset_univ _)) $$ H
  iintro H
  iapply Hk; iexact H

theorem co_load (r : Fin 4) (j : Fin 3) : cM.view.setOn (slotR r j).toLoadRect.set ⊆ (coS r j).view.set := by
  rw [co_set, View.set_slice]; exact Finset.Subset.refl _
theorem st_load (r : Fin 4) (j : Fin 3) : sM.view.setOn (slotR r j).toLoadRect.set ⊆ (stS r j).view.set := by
  rw [st_set, View.set_slice]; exact Finset.Subset.refl _

theorem ring_getComm (d : Dev nD) (r : Fin 4) (u : ℕ) {q : PosShare TreeShare} (v : Vec F S1x1x512x512 .bf16) (Kt : Vec F S1x1x512x512 .bf16 → sProp 𝕄) :
    coHas d r (slotOf u) q v ⊢ iprop((coHas d r (slotOf u) q v -∗ Kt v) -∗ wpd d (getComm r u) Kt) := by
  unfold coHas
  iintro ⟨%f, %hf, H⟩ Hk
  unfold getComm
  iapply (wpd_load d (m := cM) (r := (slotR r (slotOf u)).toLoadRect) (co_load r (slotOf u))) $$ H
  iintro H
  rw [hf]
  iapply Hk
  iexists f
  isplitr; · ipureintro; exact hf
  iexact H

theorem ring_putStage (d : Dev nD) (r : Fin 4) (u : ℕ) (v : Vec F S1x1x512x512 .bf16) (Kt : PUnit → sProp 𝕄) :
    stAny d r (slotOf u) ⊢ iprop((∀ f, ⌜(stS r (slotOf u)).view.read (Elt F) f = sq v⌝ -∗ stPts d r (slotOf u) fullShare f -∗ Kt ⟨⟩) -∗ wpd d (putStage r u v) Kt) := by
  unfold stAny
  iintro ⟨%f, H⟩ Hk
  unfold putStage
  rw [wpd_bind]
  iapply (wpd_load d (m := sM) (r := (slotR r (slotOf u)).toLoadRect) (st_load r (slotOf u))) $$ H
  iintro H
  iapply (wpd_store d (m := sM) (r := slotR r (slotOf u)) (by rw [st_set])) $$ H
  iintro H
  iapply Hk $$ %((sM.access (slotR r (slotOf u))).write (Elt F) f v Finset.univ) %(st_write r (slotOf u) f v) H

end Cert.RingProof

end
-- ==== Proof.Jobs.lean ====
/-
  The stages of a ring, one by one: what a device holds of the ring before a stage and after it.
-/
module

public import proofs.«01_k».proof.Proof.Ring

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ sum_finFrom_succ)
open Idealize.ShloMosaic.Release (USlots)

variable {F : FTy → Type} [FloatOps F]

local notation "𝕄" => MT nD τ sig ℕ (Elt F) ℕ UU ℕ

/-! ## The slots -/

/-- All stage slots of a ring, -/
def stAll (d : Dev nD) (r : Fin 4) : sProp 𝕄 := bigSep Finset.univ fun j : Fin 3 => stAny d r j
/-- all but one. -/
def stBut (d : Dev nD) (r : Fin 4) (j : Fin 3) : sProp 𝕄 := bigSep (Finset.univ.erase j) fun j : Fin 3 => stAny d r j
theorem st_split (d : Dev nD) (r : Fin 4) (j : Fin 3) : (stAll d r : sProp 𝕄) = iprop(stAny d r j ∗ stBut d r j) := bigSep_univ_split j

/-- A landed block held in two halves. -/
theorem co_halves (d : Dev nD) (r : Fin 4) (j : Fin 3) (v : Vec F S1x1x512x512 .bf16) :
    coHas d r j fullShare v ⊢ iprop(coHas d r j fullShare.left v ∗ ∃ f, ⌜cM.view.readAt (Elt F) (slotR r j).toLoadRect f = v⌝ ∗ coPts d r j fullShare.right f) := by
  unfold coHas
  iintro ⟨%f, %hf, H⟩
  ihave H := (pointsTo_share (PosShare.mem_left_op_right fullShare)).1 $$ H
  icases H with ⟨H1, H2⟩
  isplitl [H1]
  · iexists f
    isplitr; · ipureintro; exact hf
    iexact H1
  iexists f
  isplitr; · ipureintro; exact hf
  iexact H2

/-- Two halves of a receive slot are the slot. -/
theorem co_join (d : Dev nD) (r : Fin 4) (j : Fin 3) :
    iprop(coSome d r j fullShare.left ∗ coSome d r j fullShare.right) ⊢ (coAny d r j : sProp 𝕄) := by
  unfold coSome coAny Release.slot
  iintro ⟨⟨%f, H1⟩, ⟨%g, H2⟩⟩
  icombine H1 H2 gives %h
  ihave H2 := (Entails.of_eq (pointsTo_congr fun i hi => (h i (Finset.mem_inter.mpr ⟨hi, hi⟩)).1.symm)) $$ H2
  iexists f
  iapply (pointsTo_share (PosShare.mem_left_op_right fullShare)).2
  isplitl [H1]; · iexact H1
  iexact H2

theorem coHas_some (d : Dev nD) (r : Fin 4) (j : Fin 3) (q : PosShare TreeShare) (v : Vec F S1x1x512x512 .bf16) :
    coHas d r j q v ⊢ (coSome d r j q : sProp 𝕄) := by
  unfold coHas coSome
  iintro ⟨%f, -, H⟩
  iexists f; iexact H
theorem coHas_any (d : Dev nD) (r : Fin 4) (j : Fin 3) (v : Vec F S1x1x512x512 .bf16) : coHas d r j fullShare v ⊢ (coAny d r j : sProp 𝕄) := by
  unfold coHas coAny Release.slot
  iintro ⟨%f, -, H⟩
  iexists f; iexact H

/-! ## The state of a ring -/

/-- The credits given and -/
def cs (n : ℕ) : ℕ := if n ≤ 8 then n - 1 else min (n - 2) 11
/-- taken in the first `n` stages. -/
def tk (n : ℕ) : ℕ := min n 14 - 3

/-- The wait for a departure. -/
abbrev hopCr (d : Dev nD) (r : Fin 4) (u : Fin 14) : sProp 𝕄 := cred (tallyAt (cell d (kSnd r u)) 0 N)

/-- The slots a device has in hand after `n` stages, and the wait for the departure on its way. -/
def ext (d : Dev nD) (r : Fin 4) (n : ℕ) : sProp 𝕄 :=
  if n = 0 then stAll d r
  else if n ≤ 8 then iprop(hopCr d r (Fin.ofNat 14 (n - 1)) ∗ stBut d r (slotOf (n - 1)))
  else if n ≤ 14 then iprop(hopCr d r (Fin.ofNat 14 (n - 1)) ∗ stAll d r ∗ coSome d r (slotOf (n - 2)) fullShare.left ∗ if n = 14 then coAny d r 2 else iprop(emp))
  else iprop(stAll d r ∗ coAny d r 0 ∗ coAny d r 1 ∗ coAny d r 2)

theorem ext_early (d : Dev nD) (r : Fin 4) (u : Fin 14) (h : u.val < 8) : (ext d r (u.val + 1) : sProp 𝕄) = iprop(hopCr d r u ∗ stBut d r (slotOf u.val)) := by
  unfold ext
  rw [if_neg (Nat.succ_ne_zero _), if_pos (by omega), Nat.add_sub_cancel, show Fin.ofNat 14 u.val = u from Fin.ext (Nat.mod_eq_of_lt u.isLt)]
theorem ext_late (d : Dev nD) (r : Fin 4) (u : Fin 14) (h : 8 ≤ u.val) : (ext d r (u.val + 1) : sProp 𝕄)
    = iprop(hopCr d r u ∗ stAll d r ∗ coSome d r (slotOf (u.val - 1)) fullShare.left ∗ if u.val = 13 then coAny d r 2 else iprop(emp)) := by
  have hu := u.isLt
  unfold ext
  rw [if_neg (Nat.succ_ne_zero _), if_neg (by omega), if_pos (by omega), Nat.add_sub_cancel, show Fin.ofNat 14 u.val = u from Fin.ext (Nat.mod_eq_of_lt u.isLt),
    show u.val + 1 - 2 = u.val - 1 by omega]
  by_cases h13 : u.val = 13
  · rw [if_pos h13, if_pos (by omega)]
  · rw [if_neg h13, if_neg (by omega)]

/-- What a device holds of ring `r` after `n` of its stages. -/
def RS (d : Dev nD) (r : Fin 4) (n : ℕ) : sProp 𝕄 :=
  iprop(toks d r n ∗ pend d r (n - 1) ∗ past d r (n - 1) ∗ giv d r (cs n) ∗ tak d r (tk n) ∗ ext d r n)

variable (I : Inp F) (K : Dev nD × CK → ℕ) (J : SK → ℕ)

theorem wpd_pure (d : Dev nD) (Kt : PUnit → sProp 𝕄) : Kt ⟨⟩ ⊢ wpd d (pure ⟨⟩ : P F) Kt := by
  iintro H
  rw [Prog.pure_eq_ret]
  unfold wpd
  rw [wp_ret]
  imodintro; iexact H

theorem ready_freed (d : Dev nD) (r : Fin 4) (j : Fin 3) : (ready d : sProp 𝕄) ⊢ freed d r j 1 :=
  bsel (fun x : Fin 4 × Fin 3 => (freed d x.1 x.2 1 : sProp 𝕄)) (r, j)

theorem st_pay (d : Dev nD) (r : Fin 4) (j : Fin 3) (u : ℕ) (hj : slotOf u = j) (h : u < 8) (f : Buf (Elt F) ((stS r j).view.loc (d : Thread nD τ))) :
    stPts d r j fullShare f ⊢ (sndPay d r u : sProp 𝕄) := by
  unfold sndPay
  rw [if_pos h, hj]
  unfold stAny
  iintro H
  iexists f; iexact H

theorem hv_zero (r : Fin 4) (d : Dev nD) : hv I r 0 d = k0_pay4 (part I r 0 d) := by rw [hv]

/-- Stage 0. -/
theorem core_first (d : Dev nD) (r : Fin 4) (Q : CellTallies nD τ sig ℕ) (f : Buf (Elt F) (oM.view.loc (d : Thread nD τ)))
    (hf : oread d r 0 f = part I r 0 d) (Kt : PUnit → sProp 𝕄) :
    iprop(ctx I K J ∗ ready (nxt r d) ∗ ow d (Q + ringOw r d 0 (cs 0)) ∗ oAt d f ∗ RS d r 0)
      ⊢ iprop(((ow d (Q + ringOw r d 1 (cs 1)) ∗ oAt d f ∗ RS d r 1) -∗ Kt ⟨⟩) -∗ wpd d (first d r) Kt) := by
  unfold RS
  rw [show (ext d r 0 : sProp 𝕄) = iprop(stAny d r (slotOf 0) ∗ stBut d r (slotOf 0)) from (if_pos rfl).trans (st_split d r _),
    show (ext d r 1 : sProp 𝕄) = _ from ext_early d r 0 (by decide)]
  iintro ⟨#Hc, #Hrd, Ho, Hf, Htk, Hpe, Hpa, Hg, Ht, Hs, Hb⟩ Hk
  unfold first
  simp only [wpd_bind]
  iapply (ring_getBlk d r 0 f) $$ Hf
  iintro Hf
  rw [hf]
  iapply (ring_putStage d r 0) $$ Hs
  iintro %g %hg Hs
  iapply (ring_start I K J d r 0 (stS r (slotOf 0)) (st_exact r _) g (hg.trans (congrArg sq (hv_zero I r d).symm)) (st_pay d r (slotOf 0) (0 : Fin 14).val rfl (by decide) g) Q (cs 0)) $$ [Ho Htk Hs]
  · isplitr; · iexact Hc
    isplitl [Ho]; · iexact Ho
    isplitl [Htk]; · iexact Htk
    isplitr; · iapply (ready_freed (nxt r d) r (slotOf 0)); iexact Hrd
    iexact Hs
  iintro ⟨Hcr, Ho, Htk⟩
  iapply Hk
  isplitl [Ho]; · iexact Ho
  isplitl [Hf]; · iexact Hf
  isplitl [Htk]; · iexact Htk
  isplitl [Hpe]; · iexact Hpe
  isplitl [Hpa]; · iexact Hpa
  isplitl [Hg]; · iexact Hg
  isplitl [Ht]; · iexact Ht
  isplitl [Hcr]; · iexact Hcr
  iexact Hb

/-- The slot a hop of stages 1 to 6 lands in: free from the start, or freed with the credit taken. -/
theorem add_take (d : Dev nD) (r : Fin 4) (s : Fin 6) {O : CellTallies nD τ sig ℕ} (hO : Above (2 * (s.val + 1)) O) (Kt : PUnit → sProp 𝕄) :
    iprop(ctx I K J ∗ ready (nxt r d) ∗ ow d O ∗ tak d r (tk (s.val + 1)))
      ⊢ iprop(((ow d O ∗ tak d r (tk (s.val + 2)) ∗ freed (nxt r d) r (slotOf (s.val + 1)) ((s.val + 1) / 3 + 1)) -∗ Kt ⟨⟩)
        -∗ wpd d (if 2 ≤ s.val then takeCredit r else pure ⟨⟩ : P F) Kt) := by
  have hs := s.isLt
  iintro ⟨#Hc, #Hrd, Ho, Ht⟩ Hk
  by_cases h : 2 ≤ s.val
  · rw [if_pos h, show tk (s.val + 1) = s.val - 2 by unfold tk; omega, show tk (s.val + 2) = s.val - 2 + 1 by unfold tk; omega,
      show slotOf (s.val + 1) = slotOf (s.val - 2) from Fin.ext (by show (s.val + 1) % 3 = (s.val - 2) % 3; omega),
      show (s.val + 1) / 3 + 1 = (s.val - 2) / 3 + 2 by omega]
    iapply (ring_take I K J d r ⟨s.val - 2, by omega⟩ (hO.mono (by show 2 * (s.val - 2 + 3) ≤ _; omega))) $$ [Ho Ht]
    · isplitr; · iexact Hc
      isplitl [Ho]; · iexact Ho
      iexact Ht
    iexact Hk
  · rw [if_neg h, show tk (s.val + 1) = 0 by unfold tk; omega, show tk (s.val + 2) = 0 by unfold tk; omega, show (s.val + 1) / 3 + 1 = 1 by omega]
    iapply (wpd_pure d)
    iapply Hk
    isplitl [Ho]; · iexact Ho
    isplitl [Ht]; · iexact Ht
    iapply (ready_freed (nxt r d) r (slotOf (s.val + 1))); iexact Hrd

/-- Stages 1 to 6. -/
theorem core_add (d : Dev nD) (r : Fin 4) (s : Fin 6) (Q : CellTallies nD τ sig ℕ) (hQ : Above (2 * (s.val + 1)) Q)
    (f : Buf (Elt F) (oM.view.loc (d : Thread nD τ))) (hf : oread d r ⟨s.val + 1, by omega⟩ f = part I r ⟨s.val + 1, by omega⟩ d) (Kt : PUnit → sProp 𝕄) :
    iprop(ctx I K J ∗ ready (nxt r d) ∗ ow d (Q + ringOw r d (s.val + 1) (cs (s.val + 1))) ∗ oAt d f ∗ RS d r (s.val + 1))
      ⊢ iprop(((ow d (Q + ringOw r d (s.val + 2) (cs (s.val + 2))) ∗ oAt d f ∗ RS d r (s.val + 2)) -∗ Kt ⟨⟩) -∗ wpd d (add d r s) Kt) := by
  have hs := s.isLt
  have hu : s.val < 14 := by omega
  have hu1 : s.val + 1 < 14 := by omega
  have hb1 : s.val + 1 < 8 := by omega
  have hk : s.val < 11 := by omega
  have hc1 : cs (s.val + 1) = s.val := by unfold cs; rw [if_pos (by omega)]; rfl
  have hc2 : cs (s.val + 2) = s.val + 1 := by unfold cs; rw [if_pos (by omega)]; rfl
  unfold RS
  rw [hc1, hc2, show (ext d r (s.val + 1) : sProp 𝕄) = _ from ext_early d r ⟨s.val, hu⟩ (by show s.val < 8; omega),
    show (ext d r (s.val + 2) : sProp 𝕄) = _ from ext_early d r ⟨s.val + 1, hu1⟩ (by show s.val + 1 < 8; omega)]
  iintro ⟨#Hc, #Hrd, Ho, Hf, Htk, Hpe, Hpa, Hg, Ht, Hcr, Hb⟩ Hk
  unfold add
  simp only [wpd_bind]
  iapply (ring_wait I K J d r ⟨s.val, hu⟩ (stS r (slotOf s.val)) (st_exact r _)
    (hQ.add (ringOw_above r d (k := s.val + 1) (a := s.val + 1) (b := s.val) (Nat.le_refl _) (by omega)))) $$ [Ho Hcr Hpe Hpa]
  · isplitr; · iexact Hc
    isplitl [Ho]; · iexact Ho
    isplitl [Hcr]; · iexact Hcr
    isplitl [Hpe]; · iexact Hpe
    iexact Hpa
  iintro ⟨Ho, Hs, Hh, Hpe, Hpa⟩
  ihave Hs := (Entails.of_eq (show (sndPay d r s.val : sProp 𝕄) = stAny d r (slotOf s.val) from if_pos (by omega))) $$ Hs
  iapply (ring_getBlk d r ⟨s.val + 1, hb1⟩ f) $$ Hf
  iintro Hf
  rw [hf]
  iapply (ring_getComm d r s.val) $$ Hh
  iintro Hh
  iapply (ring_give I K J d r ⟨s.val, hk⟩ Q (s.val + 1)) $$ [Ho Hg Hh]
  · isplitr; · iexact Hc
    isplitl [Ho]; · iexact Ho
    isplitl [Hg]; · iexact Hg
    iapply (coHas_any d r (slotOf s.val)); iexact Hh
  iintro ⟨Ho, Hg⟩
  iapply (add_take I K J d r s (hQ.add (ringOw_above r d (k := s.val + 1) (a := s.val + 1) (b := s.val + 1) (Nat.le_refl _) (by omega)))) $$ [Ho Ht]
  · isplitr; · iexact Hc
    isplitr; · iexact Hrd
    isplitl [Ho]; · iexact Ho
    iexact Ht
  iintro ⟨Ho, Ht, #Hfr⟩
  ihave Hall : stAll d r $$ [Hs Hb]
  · rw [st_split d r (slotOf s.val)]
    isplitl [Hs]; · iexact Hs
    iexact Hb
  ihave Hall := (Entails.of_eq (st_split d r (slotOf (s.val + 1)))) $$ Hall
  icases Hall with ⟨Hs, Hb⟩
  iapply (ring_putStage d r (s.val + 1)) $$ Hs
  iintro %g %hg Hs
  iapply (ring_start I K J d r ⟨s.val + 1, hu1⟩ (stS r (slotOf (s.val + 1))) (st_exact r _) g (hg.trans (congrArg sq (hv_add I r d s).symm))
    (st_pay d r (slotOf (s.val + 1)) (s.val + 1) rfl hb1 g) Q (s.val + 1)) $$ [Ho Htk Hs]
  · isplitr; · iexact Hc
    isplitl [Ho]; · iexact Ho
    isplitl [Htk]; · iexact Htk
    isplitr; · iexact Hfr
    iexact Hs
  iintro ⟨Hcr, Ho, Htk⟩
  iapply Hk
  isplitl [Ho]; · iexact Ho
  isplitl [Hf]; · iexact Hf
  isplitl [Htk]; · iexact Htk
  isplitl [Hpe]; · iexact Hpe
  isplitl [Hpa]; · iexact Hpa
  isplitl [Hg]; · iexact Hg
  isplitl [Ht]; · iexact Ht
  isplitl [Hcr]; · iexact Hcr
  iexact Hb

/-! ## Stage 7 -/

/-- The scales in their buffers. -/
abbrev sxAt (d : Dev nD) : sProp 𝕄 := sxM.view.loc (d : Thread nD τ) ↦[Finset.univ]{fullShare} (I.sx d : Buf (Elt F) (sxM.view.loc (d : Thread nD τ)))
abbrev swAt (d : Dev nD) : sProp 𝕄 := swM.view.loc (d : Thread nD τ) ↦[Finset.univ]{fullShare} (I.sw d : Buf (Elt F) (swM.view.loc (d : Thread nD τ)))

theorem ring_sx (d : Dev nD) (Kt : Elt F .f32 → sProp 𝕄) :
    sxAt I d ⊢ iprop((sxAt I d -∗ Kt (sxv I d)) -∗ wpd d (smemLoad sxM sc1 numel1_S1 rfl) Kt) := by
  unfold smemLoad sxv
  iintro H Hk
  iapply (wp_smemLoadElt 𝒱₀ (d : Thread nD τ) none Set.univ (m := sxM) (r := sc1) (S := Finset.univ) (Finset.subset_univ _)) $$ H
  iintro H
  rw [wp_ret]; imodintro
  iapply Hk; iexact H
theorem ring_sw (d : Dev nD) (Kt : Elt F .f32 → sProp 𝕄) :
    swAt I d ⊢ iprop((swAt I d -∗ Kt (swv I d)) -∗ wpd d (smemLoad swM sc1 numel1_S1 rfl) Kt) := by
  unfold smemLoad swv
  iintro H Hk
  iapply (wp_smemLoadElt 𝒱₀ (d : Thread nD τ) none Set.univ (m := swM) (r := sc1) (S := Finset.univ) (Finset.subset_univ _)) $$ H
  iintro H
  rw [wp_ret]; imodintro
  iapply Hk; iexact H

/-- The result's buffer with a finished block written. -/
abbrev oPut (d : Dev nD) (r : Fin 4) (s : Fin 8) (f : oM.view.ty.Contents (Elt F)) : oM.view.ty.Contents (Elt F) :=
  (oM.access (oblk r d s)).write (Elt F) f (finv I r s d) Finset.univ

/-- Stage 7. -/
theorem core_fin (d : Dev nD) (r : Fin 4) (Q : CellTallies nD τ sig ℕ) (hQ : Above 14 Q)
    (f : Buf (Elt F) (oM.view.loc (d : Thread nD τ))) (hf : oread d r 7 f = part I r 7 d) (Kt : PUnit → sProp 𝕄) :
    iprop(ctx I K J ∗ (sxAt I d ∗ swAt I d) ∗ ow d (Q + ringOw r d 7 (cs 7)) ∗ oAt d f ∗ RS d r 7)
      ⊢ iprop((((sxAt I d ∗ swAt I d) ∗ ow d (Q + ringOw r d 8 (cs 8)) ∗ oAt d (oPut I d r 7 f) ∗ RS d r 8) -∗ Kt ⟨⟩) -∗ wpd d (fin d r) Kt) := by
  unfold RS
  rw [show (ext d r 7 : sProp 𝕄) = _ from ext_early d r 6 (by decide), show (ext d r 8 : sProp 𝕄) = _ from ext_early d r 7 (by decide)]
  iintro ⟨#Hc, ⟨Hsx, Hsw⟩, Ho, Hf, Htk, Hpe, Hpa, Hg, Ht, Hcr, Hb⟩ Hk
  unfold fin
  simp only [wpd_bind]
  iapply (ring_wait I K J d r 6 (stS r (slotOf 6)) (st_exact r _)
    (hQ.add (ringOw_above r d (k := 7) (a := 7) (b := cs 7) (Nat.le_refl _) (by decide)))) $$ [Ho Hcr Hpe Hpa]
  · isplitr; · iexact Hc
    isplitl [Ho]; · iexact Ho
    isplitl [Hcr]; · iexact Hcr
    isplitl [Hpe]; · iexact Hpe
    iexact Hpa
  iintro ⟨Ho, Hs, Hh, Hpe, Hpa⟩
  ihave Hs := (Entails.of_eq (show (sndPay d r (6 : Fin 14).val : sProp 𝕄) = stAny d r (slotOf 6) from if_pos (by omega))) $$ Hs
  iapply (ring_getBlk d r 7 f) $$ Hf
  iintro Hf
  rw [hf]
  iapply (ring_getComm d r (6 : Fin 14).val) $$ Hh
  iintro Hh
  iapply (ring_give I K J d r 6 Q 7) $$ [Ho Hg Hh]
  · isplitr; · iexact Hc
    isplitl [Ho]; · iexact Ho
    isplitl [Hg]; · iexact Hg
    iapply (coHas_any d r (slotOf 6)); iexact Hh
  iintro ⟨Ho, Hg⟩
  iapply (ring_sx I d) $$ Hsx
  iintro Hsx
  iapply (ring_sw I d) $$ Hsw
  iintro Hsw
  iapply (ring_putBlk d r 7 _ f) $$ Hf
  iintro Hf
  iapply (ring_take I K J d r 4 (hQ.add (ringOw_above r d (k := 7) (a := 7) (b := cs 8) (Nat.le_refl _) (by decide)))) $$ [Ho Ht]
  · isplitr; · iexact Hc
    isplitl [Ho]; · iexact Ho
    iexact Ht
  iintro ⟨Ho, Ht, #Hfr⟩
  ihave Hall : stAll d r $$ [Hs Hb]
  · rw [st_split d r (slotOf 6)]
    isplitl [Hs]; · iexact Hs
    iexact Hb
  ihave Hall := (Entails.of_eq (st_split d r (slotOf 7))) $$ Hall
  icases Hall with ⟨Hs, Hb⟩
  iapply (ring_putStage d r 7) $$ Hs
  iintro %g %hg Hs
  iapply (ring_start I K J d r 7 (stS r (slotOf 7)) (st_exact r _) g (hg.trans (congrArg sq (hv_fin I r d).symm))
    (st_pay d r (slotOf 7) (7 : Fin 14).val rfl (by decide) g) Q (cs 8)) $$ [Ho Htk Hs]
  · isplitr; · iexact Hc
    isplitl [Ho]; · iexact Ho
    isplitl [Htk]; · iexact Htk
    isplitr; · iexact Hfr
    iexact Hs
  iintro ⟨Hcr, Ho, Htk⟩
  iapply Hk
  isplitl [Hsx Hsw]
  · isplitl [Hsx]; · iexact Hsx
    iexact Hsw
  isplitl [Ho]; · iexact Ho
  isplitl [Hf]; · iexact Hf
  isplitl [Htk]; · iexact Htk
  isplitl [Hpe]; · iexact Hpe
  isplitl [Hpa]; · iexact Hpa
  isplitl [Hg]; · iexact Hg
  isplitl [Ht]; · iexact Ht
  isplitl [Hcr]; · iexact Hcr
  iexact Hb

/-! ## Stages 8 to 14 -/

/-- What is in hand of a ring's slots before stage `e + 8`, the wait for the departure apart; -/
def inHand (d : Dev nD) (r : Fin 4) (e : ℕ) : sProp 𝕄 :=
  if e = 0 then stBut d r (slotOf 7) else iprop(stAll d r ∗ coSome d r (slotOf (e + 6)) fullShare.left ∗ if e = 6 then coAny d r 2 else iprop(emp))
theorem ext_inHand (d : Dev nD) (r : Fin 4) (e : ℕ) (h : e + 7 < 14) : (ext d r (e + 8) : sProp 𝕄) = iprop(hopCr d r ⟨e + 7, h⟩ ∗ inHand d r e) := by
  unfold inHand
  by_cases h0 : e = 0
  · rw [if_pos h0]; subst h0; exact ext_early d r 7 (by decide)
  · rw [if_neg h0, show (ext d r (e + 8) : sProp 𝕄) = _ from ext_late d r ⟨e + 7, h⟩ (by show 8 ≤ e + 7; omega)]
    show iprop(_ ∗ _ ∗ coSome d r (slotOf (e + 7 - 1)) fullShare.left ∗ _) = _
    rw [show e + 7 - 1 = e + 6 by omega]
    by_cases h6 : e = 6
    · rw [if_pos h6, if_pos (show e + 7 = 13 by omega)]
    · rw [if_neg h6, if_neg (show ¬(e + 7 = 13) by omega)]

theorem giv_keep (d : Dev nD) (r : Fin 4) {c c' : ℕ} (h : c = c') : (giv d r c : sProp 𝕄) ⊢ giv d r c' := by rw [h]

/-- The credit a later stage hands back, if any: of the slot whose second half came back with the departure. -/
theorem fwd_give (d : Dev nD) (r : Fin 4) (e : Fin 6) (Q : CellTallies nD τ sig ℕ) (a : ℕ) (Kt : PUnit → sProp 𝕄) :
    iprop(ctx I K J ∗ ow d (Q + ringOw r d a (cs (e.val + 8))) ∗ giv d r (cs (e.val + 8)) ∗ sndPay d r (e.val + 7) ∗ inHand d r e.val)
      ⊢ iprop(((ow d (Q + ringOw r d a (cs (e.val + 9))) ∗ giv d r (cs (e.val + 9)) ∗ stAll d r ∗ if e.val = 5 then coAny d r 2 else iprop(emp)) -∗ Kt ⟨⟩)
        -∗ wpd d (if 1 ≤ e.val ∧ e.val ≤ 4 then giveCredit d r else pure ⟨⟩ : P F) Kt) := by
  have he := e.isLt
  unfold inHand sndPay
  by_cases h0 : e.val = 0
  · rw [if_pos h0, if_pos (show e.val + 7 < 8 by omega), if_neg (show ¬(1 ≤ e.val ∧ e.val ≤ 4) by omega), if_neg (show ¬(e.val = 5) by omega), h0]
    iintro ⟨#Hc, Ho, Hg, Hs, Hb⟩ Hk
    iapply (wpd_pure d)
    iapply Hk
    isplitl [Ho]; · iexact Ho
    isplitl [Hg]; · iexact Hg
    isplitl [Hs Hb]
    · rw [st_split d r (slotOf 7)]
      isplitl [Hs]; · iexact Hs
      iexact Hb
    iempintro
  · rw [if_neg h0, if_neg (show ¬(e.val + 7 < 8) by omega), if_neg (show ¬(e.val = 6) by omega), show e.val + 7 - 1 = e.val + 6 by omega]
    iintro ⟨#Hc, Ho, Hg, Hs, Hall, Hl, -⟩ Hk
    ihave Hco := (co_join d r (slotOf (e.val + 6))) $$ [Hl Hs]
    · isplitl [Hl]; · iexact Hl
      iexact Hs
    by_cases h5 : e.val = 5
    · rw [if_pos h5, if_neg (by omega), h5]
      iapply (wpd_pure d)
      iapply Hk
      isplitl [Ho]; · iexact Ho
      isplitl [Hg]; · iexact Hg
      isplitl [Hall]; · iexact Hall
      iexact Hco
    · have hk : e.val + 6 < 11 := by omega
      rw [if_neg h5, if_pos (by omega), show cs (e.val + 8) = e.val + 6 by unfold cs; rw [if_neg (by omega)]; omega,
        show cs (e.val + 9) = e.val + 6 + 1 by unfold cs; rw [if_neg (by omega)]; omega]
      iapply (ring_give I K J d r ⟨e.val + 6, hk⟩ Q a) $$ [Ho Hg Hco]
      · isplitr; · iexact Hc
        isplitl [Ho]; · iexact Ho
        isplitl [Hg]; · iexact Hg
        iexact Hco
      iintro ⟨Ho, Hg⟩
      iapply Hk
      isplitl [Ho]; · iexact Ho
      isplitl [Hg]; · iexact Hg
      isplitl [Hall]; · iexact Hall
      iempintro

theorem co_pay (d : Dev nD) (r : Fin 4) (j : Fin 3) (u : ℕ) (hj : slotOf (u - 1) = j) (h : 8 ≤ u) (f : Buf (Elt F) ((coS r j).view.loc (d : Thread nD τ))) :
    coPts d r j fullShare.right f ⊢ (sndPay d r u : sProp 𝕄) := by
  unfold sndPay
  rw [if_neg (by omega), hj]
  unfold coSome
  iintro H
  iexists f; iexact H

theorem finv_kept (r : Fin 4) (s : Fin 8) (d : Dev nD) (h : s ≠ 7) : finv I r s d = k0_pay1 (hv I r (s.val + 7) (prv r d)) := if_neg h

theorem fwd_keep (d : Dev nD) (r : Fin 4) (e : ℕ) : iprop(if e = 5 then coAny d r 2 else iprop(emp))
    ⊢ (iprop(if e + 8 = 13 then coAny d r 2 else iprop(emp)) : sProp 𝕄) := by
  by_cases h5 : e = 5
  · rw [if_pos h5, if_pos (show e + 8 = 13 by omega)]
  · rw [if_neg h5, if_neg (show ¬(e + 8 = 13) by omega)]

/-- Stages 8 to 13. -/
theorem core_fwd (d : Dev nD) (r : Fin 4) (e : Fin 6) (Q : CellTallies nD τ sig ℕ) (hQ : Above (2 * (e.val + 8)) Q)
    (f : Buf (Elt F) (oM.view.loc (d : Thread nD τ))) (Kt : PUnit → sProp 𝕄) :
    iprop(ctx I K J ∗ ow d (Q + ringOw r d (e.val + 8) (cs (e.val + 8))) ∗ oAt d f ∗ RS d r (e.val + 8))
      ⊢ iprop(((ow d (Q + ringOw r d (e.val + 9) (cs (e.val + 9))) ∗ oAt d (oPut I d r ⟨e.val, by omega⟩ f) ∗ RS d r (e.val + 9)) -∗ Kt ⟨⟩)
        -∗ wpd d (fwd d r e) Kt) := by
  have he := e.isLt
  have hu : e.val + 7 < 14 := by omega
  have hu1 : e.val + 8 < 14 := by omega
  have hb : e.val < 8 := by omega
  have hm : e.val + 5 < 11 := by omega
  have ht1 : tk (e.val + 8) = e.val + 5 := by unfold tk; omega
  have ht2 : tk (e.val + 9) = e.val + 5 + 1 := by unfold tk; omega
  have ha : e.val + 8 ≤ cs (e.val + 8) + 2 ∨ 11 ≤ cs (e.val + 8) := by unfold cs; split <;> omega
  have ha' : e.val + 8 ≤ cs (e.val + 9) + 2 ∨ 11 ≤ cs (e.val + 9) := by unfold cs; split <;> omega
  have hfin : k0_pay1 (hv I r (e.val + 7) (prv r d)) = finv I r ⟨e.val, hb⟩ d := (finv_kept I r ⟨e.val, hb⟩ d (fun h => by
    have := congrArg Fin.val h
    have h7 : e.val = 7 := this
    omega)).symm
  unfold RS
  rw [ht1, ht2, ext_inHand d r e.val hu, show (ext d r (e.val + 9) : sProp 𝕄) = _ from ext_late d r ⟨e.val + 8, hu1⟩ (by show 8 ≤ e.val + 8; omega)]
  iintro ⟨#Hc, Ho, Hf, Htk, Hpe, Hpa, Hg, Ht, Hcr, Hb⟩ Hk
  unfold fwd
  simp only [wpd_bind]
  iapply (ring_wait I K J d r ⟨e.val + 7, hu⟩ (srcM r (e.val + 7)) (src_exact r _)
    (hQ.add (ringOw_above r d (k := e.val + 8) (a := e.val + 8) (b := cs (e.val + 8)) (Nat.le_refl _) ha))) $$ [Ho Hcr Hpe Hpa]
  · isplitr; · iexact Hc
    isplitl [Ho]; · iexact Ho
    isplitl [Hcr]; · iexact Hcr
    isplitl [Hpe]; · iexact Hpe
    iexact Hpa
  iintro ⟨Ho, Hs, Hh, Hpe, Hpa⟩
  iapply (fwd_give I K J d r e Q (e.val + 8)) $$ [Ho Hg Hs Hb]
  · isplitr; · iexact Hc
    isplitl [Ho]; · iexact Ho
    isplitl [Hg]; · iexact Hg
    isplitl [Hs]; · iexact Hs
    iexact Hb
  iintro ⟨Ho, Hg, Hall, Hx⟩
  iapply (ring_take I K J d r ⟨e.val + 5, hm⟩
    (hQ.add (ringOw_above r d (k := e.val + 8) (a := e.val + 8) (b := cs (e.val + 9)) (Nat.le_refl _) ha'))) $$ [Ho Ht]
  · isplitr; · iexact Hc
    isplitl [Ho]; · iexact Ho
    iexact Ht
  iintro ⟨Ho, Ht, Hfr⟩
  ihave #Hfr := (Entails.of_eq (show (freed (nxt r d) r (slotOf (e.val + 5)) ((e.val + 5) / 3 + 2) : sProp 𝕄)
      = freed (nxt r d) r (slotOf (e.val + 8)) ((e.val + 8) / 3 + 1) by
    rw [show slotOf (e.val + 5) = slotOf (e.val + 8) from Fin.ext (by show (e.val + 5) % 3 = (e.val + 8) % 3; omega),
      show (e.val + 5) / 3 + 2 = (e.val + 8) / 3 + 1 by omega])) $$ Hfr
  ihave Hh := (co_halves d r (slotOf (e.val + 7)) _) $$ Hh
  icases Hh with ⟨Hl, %g, %hg, Hr⟩
  iapply (ring_start I K J d r ⟨e.val + 8, hu1⟩ (coS r (slotOf (e.val + 7))) (co_exact r _) g
    ((co_read r (slotOf (e.val + 7)) g).trans (congrArg sq (hg.trans (hv_fwd I r d e.val).symm)))
    (co_pay d r (slotOf (e.val + 7)) (e.val + 8) rfl (by omega) g) Q (cs (e.val + 9))) $$ [Ho Htk Hr]
  · isplitr; · iexact Hc
    isplitl [Ho]; · iexact Ho
    isplitl [Htk]; · iexact Htk
    isplitr; · iexact Hfr
    iexact Hr
  iintro ⟨Hcr, Ho, Htk⟩
  iapply (ring_getComm d r (e.val + 7)) $$ Hl
  iintro Hl
  rw [hfin]
  iapply (ring_putBlk d r ⟨e.val, hb⟩ _ f) $$ Hf
  iintro Hf
  iapply Hk
  isplitl [Ho]; · iexact Ho
  isplitl [Hf]; · iexact Hf
  isplitl [Htk]; · iexact Htk
  isplitl [Hpe]; · iexact Hpe
  isplitl [Hpa]; · iexact Hpa
  isplitl [Hg]; · iexact Hg
  isplitl [Ht]; · iexact Ht
  isplitl [Hcr]; · iexact Hcr
  isplitl [Hall]; · iexact Hall
  isplitl [Hl]
  · iapply (coHas_some d r (slotOf (e.val + 7))); iexact Hl
  iapply (fwd_keep d r e.val); iexact Hx

theorem toks_none (d : Dev nD) (r : Fin 4) : (toks d r 15 : sProp 𝕄) = iprop(emp) := by
  unfold toks
  rw [show finFrom 14 15 = ∅ by decide, bigSep_empty]; rfl
theorem ringOw_end (r : Fin 4) (d : Dev nD) (b : ℕ) : ringOw r d 14 b = ringOw r d 15 b := by
  unfold ringOw
  rw [show finFrom 14 14 = finFrom 14 15 by decide]

/-- Stage 14. -/
theorem core_last (d : Dev nD) (r : Fin 4) (Q : CellTallies nD τ sig ℕ) (hQ : Above 28 Q)
    (f : Buf (Elt F) (oM.view.loc (d : Thread nD τ))) (Kt : PUnit → sProp 𝕄) :
    iprop(ctx I K J ∗ ow d (Q + ringOw r d 14 (cs 14)) ∗ oAt d f ∗ RS d r 14)
      ⊢ iprop(((ow d (Q + ringOw r d 15 (cs 15)) ∗ oAt d (oPut I d r 6 f) ∗ RS d r 15) -∗ Kt ⟨⟩) -∗ wpd d (last d r) Kt) := by
  have h0 := ext_inHand (F := F) d r 6 (by decide)
  have hfin : k0_pay1 (hv I r 13 (prv r d)) = finv I r 6 d := (finv_kept I r 6 d (by decide)).symm
  unfold RS
  rw [show (ext d r 14 : sProp 𝕄) = _ from h0, toks_none, ← ringOw_end,
    show (ext d r 15 : sProp 𝕄) = iprop(stAll d r ∗ coAny d r 0 ∗ coAny d r 1 ∗ coAny d r 2) from rfl]
  unfold inHand
  rw [if_neg (show ¬(6 = 0) by decide), if_pos rfl]
  iintro ⟨#Hc, Ho, Hf, -, Hpe, Hpa, Hg, Ht, Hcr, Hall, Hl, Hx⟩ Hk
  unfold last
  simp only [wpd_bind]
  iapply (ring_wait I K J d r 13 (coS r (slotOf 12)) (co_exact r _)
    (hQ.add (ringOw_above r d (k := 14) (a := 14) (b := cs 14) (Nat.le_refl _) (by decide)))) $$ [Ho Hcr Hpe Hpa]
  · isplitr; · iexact Hc
    isplitl [Ho]; · iexact Ho
    isplitl [Hcr]; · iexact Hcr
    isplitl [Hpe]; · iexact Hpe
    iexact Hpa
  iintro ⟨Ho, Hs, Hh, Hpe, Hpa⟩
  ihave Hs := (Entails.of_eq (show (sndPay d r (13 : Fin 14).val : sProp 𝕄) = coSome d r (slotOf 12) fullShare.right from if_neg (by decide))) $$ Hs
  ihave Hco := (co_join d r (slotOf 12)) $$ [Hl Hs]
  · isplitl [Hl]; · iexact Hl
    iexact Hs
  iapply (ring_getComm d r (13 : Fin 14).val) $$ Hh
  iintro Hh
  rw [show hv I r (13 : Fin 14).val (prv r d) = hv I r 13 (prv r d) from rfl, hfin]
  iapply (ring_putBlk d r 6 _ f) $$ Hf
  iintro Hf
  iapply Hk
  isplitl [Ho]; · iexact Ho
  isplitl [Hf]; · iexact Hf
  isplitr; · iempintro
  isplitl [Hpe]; · iexact Hpe
  isplitl [Hpa]; · iexact Hpa
  isplitl [Hg]; · iexact Hg
  isplitl [Ht]; · iexact Ht
  isplitl [Hall]; · iexact Hall
  isplitl [Hco]; · iexact Hco
  isplitl [Hh]
  · iapply (coHas_any d r 1); iexact Hh
  iexact Hx

end Cert.RingProof

end
-- ==== Proof.Whole.lean ====
/-
  The whole body of one device: the state between its jobs, each job from state to state, and the program run through.
-/
module

public import proofs.«01_k».proof.Proof.Jobs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo bigSep_finFrom_succ bigSep_finUpTo_succ sum_finFrom_succ)
open Idealize.ShloMosaic.Release (USlots)

variable {F : FTy → Type} [FloatOps F]

local notation "𝕄" => MT nD τ sig ℕ (Elt F) ℕ UU ℕ

variable (I : Inp F) (K : Dev nD × CK → ℕ) (J : SK → ℕ)

/-! ## The state between jobs -/

/-- The operands in their buffers, -/
abbrev xAt (d : Dev nD) : sProp 𝕄 := xM.view.loc (d : Thread nD τ) ↦[Finset.univ]{fullShare} (I.x d : Buf (Elt F) (xM.view.loc (d : Thread nD τ)))
abbrev wAt (d : Dev nD) : sProp 𝕄 := wM.view.loc (d : Thread nD τ) ↦[Finset.univ]{fullShare} (I.w d : Buf (Elt F) (wM.view.loc (d : Thread nD τ)))
/-- the widened weights with anything in their buffer, -/
def bAny (d : Dev nD) : sProp 𝕄 := iprop(∃ g : Buf (Elt F) (bM.view.loc (d : Thread nD τ)), bM.view.loc (d : Thread nD τ) ↦[Finset.univ]{fullShare} g)
/-- and in place. -/
def bHas (d : Dev nD) : sProp 𝕄 :=
  iprop(∃ g : Buf (Elt F) (bM.view.loc (d : Thread nD τ)), ⌜bM.view.readAt (Elt F) wAll.toLoadRect g = wb I d⌝
    ∗ bM.view.loc (d : Thread nD τ) ↦[Finset.univ]{fullShare} g)

/-- The result in the middle of the body. -/
def oSt (d : Dev nD) (D : Finset (Fin 8)) (n : Fin 4 → ℕ) : sProp 𝕄 := iprop(∃ f : Buf (Elt F) (oM.view.loc (d : Thread nD τ)), ⌜OInv I d D n f⌝ ∗ oAt d f)

/-- What a device owes after `n r` stages of each ring `r`. -/
def owAll (d : Dev nD) (n : Fin 4 → ℕ) : CellTallies nD τ sig ℕ := ∑ r, ringOw r d (n r) (cs (n r))

/-- The state of the rings and the result. -/
def St (d : Dev nD) (D : Finset (Fin 8)) (n : Fin 4 → ℕ) : sProp 𝕄 :=
  iprop(ow d (owAll d n) ∗ oSt I d D n ∗ bigSep Finset.univ fun r => RS d r (n r))

/-- What the stages only read. -/
def env (d : Dev nD) : sProp 𝕄 := iprop(ctx I K J ∗ (ready (lft d) ∗ ready (rgt d)) ∗ (xAt I d ∗ bHas I d) ∗ (sxAt I d ∗ swAt I d))

theorem ready_nxt (d : Dev nD) (r : Fin 4) : iprop(ready (lft d) ∗ ready (rgt d)) ⊢ (ready (nxt r d) : sProp 𝕄) := by
  unfold nxt
  cases cw r
  · iintro ⟨H, -⟩; iexact H
  · iintro ⟨-, H⟩; iexact H

/-! ## The local product -/

theorem run_loadW (d : Dev nD) (Kt : PUnit → sProp 𝕄) :
    iprop(wAt I d ∗ bAny d) ⊢ iprop(((wAt I d ∗ bHas I d) -∗ Kt ⟨⟩) -∗ wpd d loadW Kt) := by
  unfold bAny bHas loadW
  simp only [wpd_bind]
  iintro ⟨Hw, %g, Hb⟩ Hk
  iapply (wpd_load d (m := wM) (r := wAll.toLoadRect) (S := Finset.univ) (Finset.subset_univ _)) $$ Hw
  iintro Hw
  iapply (wpd_load d (m := bM) (r := wAll.toLoadRect) (S := Finset.univ) (Finset.subset_univ _)) $$ Hb
  iintro Hb
  iapply (wpd_store d (m := bM) (r := wAll) (S := Finset.univ) (Finset.subset_univ _)) $$ Hb
  iintro Hb
  iapply Hk
  isplitl [Hw]; · iexact Hw
  iexists _
  isplitr
  rotate_left
  · iexact Hb
  ipureintro
  exact b_write g _

theorem not_done (k : ℕ) (hk : k < 8) (s : Fin 8) : done k s = false := by
  unfold done
  split
  · exact decide_eq_false (by omega)
  · exact decide_eq_false (by omega)

theorem run_gemm (d : Dev nD) (b : Bool) (s : Fin 8) (D : Finset (Fin 8)) (k : ℕ) (hk : k < 8) (Kt : PUnit → sProp 𝕄) :
    iprop((xAt I d ∗ bHas I d) ∗ oSt I d D fun _ => k)
      ⊢ iprop((((xAt I d ∗ bHas I d) ∗ oSt I d (insert (offs b s) D) fun _ => k) -∗ Kt ⟨⟩) -∗ wpd d (gemm d b s) Kt) := by
  unfold bHas oSt gemm
  simp only [wpd_bind]
  iintro ⟨⟨Hx, %g, %hg, Hb⟩, %f, %hf, Hf⟩ Hk
  iapply (wpd_load d (m := xM) (r := (xrow b d s).toLoadRect) (S := Finset.univ) (Finset.subset_univ _)) $$ Hx
  iintro Hx
  iapply (wpd_load d (m := bM) (r := wAll.toLoadRect) (S := Finset.univ) (Finset.subset_univ _)) $$ Hb
  iintro Hb
  rw [hg]
  iapply (wpd_load d (m := oM) (r := (orow b d s).toLoadRect) (S := Finset.univ) (Finset.subset_univ _)) $$ Hf
  iintro Hf
  iapply (wpd_store d (m := oM) (r := orow b d s) (S := Finset.univ) (Finset.subset_univ _)) $$ Hf
  iintro Hf
  iapply Hk
  isplitl [Hx Hb]
  · isplitl [Hx]; · iexact Hx
    iexists g
    isplitr; · ipureintro; exact hg
    iexact Hb
  iexists _
  isplitr
  rotate_left
  · iexact Hf
  ipureintro
  exact OInv.gemm I hf b s fun r s' _ => not_done k hk s'

/-! ## A stage of one ring, of all four -/

/-- A stage of ring `r` from `k` stages to `k + 1`, whatever else is owed above it. -/
def IsStage (d : Dev nD) (D : Finset (Fin 8)) (k : ℕ) (r : Fin 4) (j : P F) : Prop :=
  ∀ (n : Fin 4 → ℕ) (Q : CellTallies nD τ sig ℕ) (f : Buf (Elt F) (oM.view.loc (d : Thread nD τ))) (Kt : PUnit → sProp 𝕄),
    n r = k → Above (2 * k) Q → OInv I d D n f →
    iprop(env I K J d ∗ ow d (Q + ringOw r d k (cs k)) ∗ oAt d f ∗ RS d r k)
      ⊢ iprop(((env I K J d ∗ ow d (Q + ringOw r d (k + 1) (cs (k + 1))) ∗ oSt I d D (Function.update n r (k + 1)) ∗ RS d r (k + 1)) -∗ Kt ⟨⟩)
        -∗ wpd d j Kt)

theorem owAll_at (d : Dev nD) (n : Fin 4 → ℕ) (r : Fin 4) :
    owAll d n = (∑ r' ∈ Finset.univ.erase r, ringOw r' d (n r') (cs (n r'))) + ringOw r d (n r) (cs (n r)) :=
  (Finset.sum_erase_add _ _ (Finset.mem_univ r)).symm
theorem owAll_update (d : Dev nD) (n : Fin 4 → ℕ) (r : Fin 4) (k : ℕ) :
    owAll d (Function.update n r k) = (∑ r' ∈ Finset.univ.erase r, ringOw r' d (n r') (cs (n r'))) + ringOw r d k (cs k) := by
  rw [owAll_at d _ r, Function.update_self]
  exact congrArg (· + ringOw r d k (cs k)) (Finset.sum_congr rfl fun r' hr' => by rw [Function.update_of_ne (Finset.ne_of_mem_erase hr')])

theorem run_stage (d : Dev nD) (D : Finset (Fin 8)) (k : ℕ) (r : Fin 4) (j : P F) (hj : IsStage I K J d D k r j) (n : Fin 4 → ℕ)
    (hn : ∀ r', k ≤ n r') (hr : n r = k) (Kt : PUnit → sProp 𝕄) :
    iprop(env I K J d ∗ St I d D n) ⊢ iprop(((env I K J d ∗ St I d D (Function.update n r (k + 1))) -∗ Kt ⟨⟩) -∗ wpd d j Kt) := by
  have hQ : Above (2 * k) (∑ r' ∈ Finset.univ.erase r, ringOw r' d (n r') (cs (n r'))) := Above.sum fun r' _ =>
    ringOw_above r' d (hn r') (by have := hn r'; unfold cs; split <;> omega)
  unfold St
  rw [owAll_at d n r, owAll_update, hr]
  unfold oSt
  iintro ⟨He, Ho, ⟨%f, %hf, Hf⟩, HR⟩ Hk
  ihave HR := (bigSep_univ_turn (fun r n => (RS d r n : sProp 𝕄)) n r) $$ HR
  icases HR with ⟨Hr, HR⟩
  ihave Hr := (Entails.of_eq (congrArg (fun n => (RS d r n : sProp 𝕄)) hr)) $$ Hr
  iapply (hj n _ f Kt hr hQ hf) $$ [He Ho Hf Hr]
  · isplitl [He]; · iexact He
    isplitl [Ho]; · iexact Ho
    isplitl [Hf]; · iexact Hf
    iexact Hr
  iintro ⟨He, Ho, Hf, Hr⟩
  iapply Hk
  isplitl [He]; · iexact He
  isplitl [Ho]; · iexact Ho
  isplitl [Hf]; · unfold oSt; iexact Hf
  iapply HR
  iexact Hr

theorem four_updates (k : ℕ) : Function.update (Function.update (Function.update (Function.update (fun _ : Fin 4 => k) 0 (k + 1)) 1 (k + 1)) 2 (k + 1)) 3 (k + 1)
    = fun _ => k + 1 := by
  funext r
  fin_cases r <;> rfl

theorem run_all4 (d : Dev nD) (D : Finset (Fin 8)) (k k' : ℕ) (hk : k' = k + 1) (j : Fin 4 → P F) (hj : ∀ r, IsStage I K J d D k r (j r)) (Kt : PUnit → sProp 𝕄) :
    iprop(env I K J d ∗ St I d D fun _ => k) ⊢ iprop(((env I K J d ∗ St I d D fun _ => k') -∗ Kt ⟨⟩) -∗ wpd d (all4 j) Kt) := by
  subst hk
  have up (n : Fin 4 → ℕ) (r : Fin 4) (h : ∀ r', k ≤ n r') : ∀ r', k ≤ Function.update n r (k + 1) r' := fun r' => by
    by_cases hr : r' = r
    · subst hr; rw [Function.update_self]; omega
    · rw [Function.update_of_ne hr]; exact h r'
  unfold all4
  simp only [wpd_bind]
  iintro H Hk
  iapply (run_stage I K J d D k 0 (j 0) (hj 0) _ (fun _ => Nat.le_refl k) rfl) $$ H
  iintro H
  iapply (run_stage I K J d D k 1 (j 1) (hj 1) _ (up _ _ fun _ => Nat.le_refl k) rfl) $$ H
  iintro H
  iapply (run_stage I K J d D k 2 (j 2) (hj 2) _ (up _ _ (up _ _ fun _ => Nat.le_refl k)) rfl) $$ H
  iintro H
  iapply (run_stage I K J d D k 3 (j 3) (hj 3) _ (up _ _ (up _ _ (up _ _ fun _ => Nat.le_refl k))) rfl) $$ H
  rw [four_updates]
  iexact Hk

/-! ## The stages -/

theorem is_first (d : Dev nD) (D : Finset (Fin 8)) (hD : ∀ r, offs (cw r) 0 ∈ D) (r : Fin 4) : IsStage I K J d D 0 r (first d r) := by
  intro n Q f Kt hr hQ hf
  unfold env
  iintro ⟨⟨#Hc, #Hrd, Hx, Hs⟩, Ho, Hf, HR⟩ Hk
  ihave #Hn := (ready_nxt d r) $$ Hrd
  iapply (core_first I K J d r Q f (OInv.get I hf r 0 (by rw [hr]; decide) (hD r))) $$ [Ho Hf HR]
  · isplitr; · iexact Hc
    isplitr; · iexact Hn
    isplitl [Ho]; · iexact Ho
    isplitl [Hf]; · iexact Hf
    iexact HR
  iintro ⟨Ho, Hf, HR⟩
  iapply Hk
  isplitl [Hx Hs]
  · isplitr; · iexact Hc
    isplitr; · iexact Hrd
    isplitl [Hx]; · iexact Hx
    iexact Hs
  isplitl [Ho]; · iexact Ho
  isplitl [Hf]
  · unfold oSt
    iexists f
    isplitr; · ipureintro; exact OInv.skip I hf r (0 + 1) (by rw [hr]; decide)
    iexact Hf
  iexact HR

theorem done_add : ∀ (s : Fin 6) (s' : Fin 8), done (s.val + 2) s' = done (s.val + 1) s' := by decide

theorem is_add (d : Dev nD) (D : Finset (Fin 8)) (s : Fin 6) (k : ℕ) (hk : k = s.val + 1) (hD : ∀ r, offs (cw r) ⟨s.val + 1, by omega⟩ ∈ D) (r : Fin 4) :
    IsStage I K J d D k r (add d r s) := by
  subst hk
  intro n Q f Kt hr hQ hf
  unfold env
  iintro ⟨⟨#Hc, #Hrd, Hx, Hs⟩, Ho, Hf, HR⟩ Hk
  ihave #Hn := (ready_nxt d r) $$ Hrd
  iapply (core_add I K J d r s Q hQ f (OInv.get I hf r _ (by rw [hr]; exact not_done _ (by omega) _) (hD r))) $$ [Ho Hf HR]
  · isplitr; · iexact Hc
    isplitr; · iexact Hn
    isplitl [Ho]; · iexact Ho
    isplitl [Hf]; · iexact Hf
    iexact HR
  iintro ⟨Ho, Hf, HR⟩
  iapply Hk
  isplitl [Hx Hs]
  · isplitr; · iexact Hc
    isplitr; · iexact Hrd
    isplitl [Hx]; · iexact Hx
    iexact Hs
  isplitl [Ho]; · iexact Ho
  isplitl [Hf]
  · unfold oSt
    iexists f
    isplitr; · ipureintro; exact OInv.skip I hf r (s.val + 1 + 1) (fun s' => by rw [hr]; exact done_add s s')
    iexact Hf
  iexact HR

theorem is_fin (d : Dev nD) (D : Finset (Fin 8)) (hD : ∀ r, offs (cw r) 7 ∈ D) (r : Fin 4) : IsStage I K J d D 7 r (fin d r) := by
  intro n Q f Kt hr hQ hf
  unfold env
  iintro ⟨⟨#Hc, #Hrd, Hx, Hs⟩, Ho, Hf, HR⟩ Hk
  iapply (core_fin I K J d r Q hQ f (OInv.get I hf r 7 (by rw [hr]; decide) (hD r))) $$ [Hs Ho Hf HR]
  · isplitr; · iexact Hc
    isplitl [Hs]; · iexact Hs
    isplitl [Ho]; · iexact Ho
    isplitl [Hf]; · iexact Hf
    iexact HR
  iintro ⟨Hs, Ho, Hf, HR⟩
  iapply Hk
  isplitl [Hx Hs]
  · isplitr; · iexact Hc
    isplitr; · iexact Hrd
    isplitl [Hx]; · iexact Hx
    iexact Hs
  isplitl [Ho]; · iexact Ho
  isplitl [Hf]
  · unfold oSt
    iexists _
    isplitr
    rotate_left
    · iexact Hf
    ipureintro; exact OInv.put I hf r (7 + 1) 7 (by decide) (by rw [hr]; decide)
  iexact HR

theorem done_fwd : ∀ e : Fin 6, done (e.val + 9) ⟨e.val, by omega⟩ = true
    ∧ ∀ s : Fin 8, s ≠ ⟨e.val, by omega⟩ → done (e.val + 9) s = done (e.val + 8) s := by decide

theorem is_fwd (d : Dev nD) (D : Finset (Fin 8)) (e : Fin 6) (k : ℕ) (hk : k = e.val + 8) (r : Fin 4) :
    IsStage I K J d D k r (fwd d r e) := by
  subst hk
  intro n Q f Kt hr hQ hf
  unfold env
  iintro ⟨⟨#Hc, #Hrd, Hx, Hs⟩, Ho, Hf, HR⟩ Hk
  iapply (core_fwd I K J d r e Q hQ f) $$ [Ho Hf HR]
  · isplitr; · iexact Hc
    isplitl [Ho]; · iexact Ho
    isplitl [Hf]; · iexact Hf
    iexact HR
  iintro ⟨Ho, Hf, HR⟩
  iapply Hk
  isplitl [Hx Hs]
  · isplitr; · iexact Hc
    isplitr; · iexact Hrd
    isplitl [Hx]; · iexact Hx
    iexact Hs
  isplitl [Ho]; · iexact Ho
  isplitl [Hf]
  · unfold oSt
    iexists _
    isplitr
    rotate_left
    · iexact Hf
    ipureintro
    exact OInv.put I hf r (e.val + 8 + 1) ⟨e.val, by omega⟩ (done_fwd e).1 (fun s hs => by rw [hr]; exact (done_fwd e).2 s hs)
  iexact HR

theorem is_last (d : Dev nD) (D : Finset (Fin 8)) (r : Fin 4) : IsStage I K J d D 14 r (last d r) := by
  intro n Q f Kt hr hQ hf
  unfold env
  iintro ⟨⟨#Hc, #Hrd, Hx, Hs⟩, Ho, Hf, HR⟩ Hk
  iapply (core_last I K J d r Q hQ f) $$ [Ho Hf HR]
  · isplitr; · iexact Hc
    isplitl [Ho]; · iexact Ho
    isplitl [Hf]; · iexact Hf
    iexact HR
  iintro ⟨Ho, Hf, HR⟩
  iapply Hk
  isplitl [Hx Hs]
  · isplitr; · iexact Hc
    isplitr; · iexact Hrd
    isplitl [Hx]; · iexact Hx
    iexact Hs
  isplitl [Ho]; · iexact Ho
  isplitl [Hf]
  · unfold oSt
    iexists _
    isplitr
    rotate_left
    · iexact Hf
    ipureintro; exact OInv.put I hf r (14 + 1) 6 (by decide) (by rw [hr]; decide)
  iexact HR

/-- A block of the local product between two stages. -/
theorem run_gemm_st (d : Dev nD) (b : Bool) (s : Fin 8) (D : Finset (Fin 8)) (k : ℕ) (hk : k < 8) (Kt : PUnit → sProp 𝕄) :
    iprop(env I K J d ∗ St I d D fun _ => k)
      ⊢ iprop(((env I K J d ∗ St I d (insert (offs b s) D) fun _ => k) -∗ Kt ⟨⟩) -∗ wpd d (gemm d b s) Kt) := by
  unfold env St
  iintro ⟨⟨#Hc, #Hrd, Hx, Hs⟩, Ho, Hf, HR⟩ Hk
  iapply (run_gemm I d b s D k hk) $$ [Hx Hf]
  · isplitl [Hx]; · iexact Hx
    iexact Hf
  iintro ⟨Hx, Hf⟩
  iapply Hk
  isplitl [Hx Hs]
  · isplitr; · iexact Hc
    isplitr; · iexact Hrd
    isplitl [Hx]; · iexact Hx
    iexact Hs
  isplitl [Ho]; · iexact Ho
  isplitl [Hf]; · iexact Hf
  iexact HR

/-! ## The start -/

/-- The tokens of a device for the handshake, -/
def barTok (d : Dev nD) : sProp 𝕄 :=
  iprop(dutyTok ER (cell (lft d) kBar) 0 1 ∗ dutyTok ER (cell (rgt d) kBar) 0 0 ∗ atPos ER (cell d kBar) 0 ∅ 0 ∗ cred (tallyAt (cell d kBar) 1 2))
/-- for a ring. -/
def ringTok (d : Dev nD) (r : Fin 4) : sProp 𝕄 :=
  iprop(toks d r 0 ∗ pend d r 0 ∗ (bigSep (finFrom 11 0) fun k : Fin 11 => dutyTok ER (cell (prv r d) (kCrd r)) 0 k.val) ∗ tak d r 0)
/-- What a device owes at the start. -/
def O₀ (d : Dev nD) : CellTallies nD τ sig ℕ :=
  owAll d (fun _ => 0) + tallyAt (cell (rgt d) kBar) 1 1 + tallyAt (cell (lft d) kBar) 1 1
/-- The receive slots of a ring. -/
def coAll (d : Dev nD) (r : Fin 4) : sProp 𝕄 := bigSep Finset.univ fun j : Fin 3 => coAny d r j

/-- The first freeing of a device's receive slots. -/
theorem free_all (d : Dev nD) :
    iprop(ctx I K J ∗ bigSep Finset.univ fun r : Fin 4 => iprop(coAll d r ∗ bigSep Finset.univ fun j : Fin 3 => Release.readerAt ES ((d, (r, j)) : SK) 0))
      ⊢ |={Set.univ}=> iprop(ready d ∗ bigSep Finset.univ fun r : Fin 4 => (bigSep Finset.univ fun j : Fin 3 => Release.readerAt ES ((d, (r, j)) : SK) 1 : sProp 𝕄)) := by
  unfold ready coAll
  rw [bigSep_congr (s := Finset.univ) (fun (r : Fin 4) _ => (bigSep_sep' Finset.univ (fun j : Fin 3 => (coAny d r j : sProp 𝕄))
      (fun j => Release.readerAt ES ((d, (r, j)) : SK) 0)).symm),
    ← bigSep_univ_prod (fun x : Fin 4 × Fin 3 => iprop(coAny d x.1 x.2 ∗ Release.readerAt ES ((d, (x.1, x.2)) : SK) 0)),
    ← bigSep_univ_prod (fun x : Fin 4 × Fin 3 => (Release.readerAt ES ((d, (x.1, x.2)) : SK) 1 : sProp 𝕄)), ← bigSep_sep']
  refine (bigSep_with_persistent (S := Finset.univ) (R := ctx I K J)
    (Ψ := fun x : Fin 4 × Fin 3 => iprop(|={Set.univ}=> (freed d x.1 x.2 1 ∗ Release.readerAt ES ((d, (x.1, x.2)) : SK) 1)))
    fun x _ => ?_).trans (bigSep_fupd _ _)
  iintro ⟨#Hc, Hs, Hr⟩
  ihave #Hi := (ctx_slot I K J d x.1 x.2) $$ Hc
  imod (Release.slot_release ES (Set.mem_univ _) (coAny_excl d x.1 x.2) 0) $$ [Hr Hs] with ⟨Hr, Hn⟩
  · isplitr; · iexact Hi
    isplitl [Hr]; · iexact Hr
    iexact Hs
  imodintro
  isplitl [Hn]; · iexact Hn
  iexact Hr

theorem cnt_zero (j : Fin 3) : cnt 0 j = 1 := by revert j; decide

theorem cnt_start (d : Dev nD) (r : Fin 4) : (bigSep Finset.univ fun j : Fin 3 => (Release.readerAt ES ((d, (r, j)) : SK) (cnt 0 j) : sProp 𝕄))
    = bigSep Finset.univ fun j : Fin 3 => Release.readerAt ES ((d, (r, j)) : SK) 1 := bigSep_congr fun j _ => by rw [cnt_zero]

/-- A ring before its first stage. -/
theorem RS_intro (d : Dev nD) (r : Fin 4) :
    iprop(ringTok d r ∗ stAll d r ∗ bigSep Finset.univ fun j : Fin 3 => Release.readerAt ES ((d, (r, j)) : SK) 1) ⊢ (RS d r 0 : sProp 𝕄) := by
  unfold ringTok RS
  iintro ⟨⟨Htk, Hp, Hg, Ht⟩, Hs, Hr⟩
  isplitl [Htk]; · iexact Htk
  isplitl [Hp]; · iexact Hp
  isplitr
  · unfold past
    rw [show finUpTo 14 (0 - 1) = ∅ by decide, bigSep_empty]
    iempintro
  isplitl [Hg Hr]
  · unfold giv
    rw [show cs 0 = 0 from rfl]
    isplitl [Hg]; · iexact Hg
    isplitl [Hr]
    · iapply (Entails.of_eq (cnt_start d r).symm)
      iexact Hr
    unfold credsUpTo
    rw [show finUpTo 11 0 = ∅ by decide, bigSep_empty]
    iempintro
  isplitl [Ht]; · iexact Ht
  unfold ext
  rw [if_pos rfl]
  iexact Hs

theorem RS_intro_all (d : Dev nD) :
    iprop((bigSep Finset.univ fun r => ringTok d r) ∗ (bigSep Finset.univ fun r => stAll d r)
        ∗ bigSep Finset.univ fun r : Fin 4 => bigSep Finset.univ fun j : Fin 3 => Release.readerAt ES ((d, (r, j)) : SK) 1)
      ⊢ (bigSep Finset.univ fun r => RS d r 0 : sProp 𝕄) := by
  rw [← bigSep_sep', ← bigSep_sep']
  exact bigSep_mono fun r _ => RS_intro d r

/-! ## The program -/

/-- What a device starts the body with, besides the operands; -/
def before (d : Dev nD) : sProp 𝕄 :=
  iprop(ctx I K J ∗ ow d (O₀ d) ∗ barTok d ∗ (bigSep Finset.univ fun r => ringTok d r)
    ∗ (bigSep Finset.univ fun r : Fin 4 => iprop(coAll d r ∗ bigSep Finset.univ fun j : Fin 3 => Release.readerAt ES ((d, (r, j)) : SK) 0))
    ∗ (bigSep Finset.univ fun r => stAll d r) ∗ bAny d)
/-- the operands; -/
def opnds (d : Dev nD) : sProp 𝕄 := iprop(xAt I d ∗ wAt I d ∗ sxAt I d ∗ swAt I d)
/-- and what it ends with. -/
def after (d : Dev nD) : sProp 𝕄 :=
  iprop(ow d 0 ∗ semVal (cell d kBar) 0 ∗ (bigSep Finset.univ fun r => RS d r 15) ∗ bHas I d)

theorem owAll_end (d : Dev nD) : owAll d (fun _ => 15) = 0 := by
  unfold owAll ringOw
  refine Finset.sum_eq_zero fun r _ => ?_
  rw [show cs 15 = 11 from rfl, show finFrom 14 15 = ∅ by decide, show finFrom 11 11 = ∅ by decide, Finset.sum_empty, Finset.sum_empty, add_zero]

theorem owAll_start (d : Dev nD) : Above 1 (owAll d fun _ => 0) := by
  unfold owAll ringOw
  refine Above.sum fun r _ => Above.add (Above.sum fun u _ => Above.tally _ _ _ (by omega) (by have := u.isLt; omega))
    (Above.sum fun u _ => Above.tally _ _ _ (by omega) (by have := u.isLt; omega))

theorem run_prog (d : Dev nD) (Kt : PUnit → sProp 𝕄) :
    iprop(before I K J d ∗ opnds I d ∗ oSt I d ∅ fun _ => 0)
      ⊢ iprop(((after I d ∗ opnds I d ∗ ∃ D, oSt I d D fun _ => 15) -∗ Kt ⟨⟩) -∗ wpd d (prog d) Kt) := by
  unfold before opnds after prog barTok O₀
  simp only [wpd_bind]
  iintro ⟨⟨#Hc, Ho, Hbt, Hrt, Hco, Hst, Hb⟩, ⟨Hx, Hw, Hsx, Hsw⟩, Hf⟩ Hk
  imod (free_all I K J d) $$ [Hco] with ⟨#Hrd, Hrr⟩
  · isplitr; · iexact Hc
    iexact Hco
  iapply (run_loadW I d) $$ [Hw Hb]
  · isplitl [Hw]; · iexact Hw
    iexact Hb
  iintro ⟨Hw, Hb⟩
  iapply (run_gemm I d false 0 ∅ 0 (by decide)) $$ [Hx Hb Hf]
  · isplitl [Hx Hb]
    · isplitl [Hx]; · iexact Hx
      iexact Hb
    iexact Hf
  iintro ⟨Hxb, Hf⟩
  iapply (wpd_barrier I K J d (owAll_start d)) $$ [Ho Hbt]
  · isplitr; · iexact Hc
    isplitl [Ho]; · iexact Ho
    isplitl [Hbt]; · iexact Hbt
    iexact Hrd
  iintro ⟨Ho, Hz, Hrl, Hrr'⟩
  ihave He : env I K J d $$ [Hrl Hrr' Hxb Hsx Hsw]
  · unfold env
    isplitr; · iexact Hc
    isplitl [Hrl Hrr']
    · isplitl [Hrl]; · iexact Hrl
      iexact Hrr'
    isplitl [Hxb]; · iexact Hxb
    isplitl [Hsx]; · iexact Hsx
    iexact Hsw
  ihave HRS := (RS_intro_all d) $$ [Hrt Hst Hrr]
  · isplitl [Hrt]; · iexact Hrt
    isplitl [Hst]; · iexact Hst
    iexact Hrr
  ihave H : iprop(env I K J d ∗ St I d (insert (offs false 0) ∅) fun _ => 0) $$ [He Ho Hf HRS]
  · isplitl [He]; · iexact He
    unfold St
    isplitl [Ho]; · iexact Ho
    isplitl [Hf]; · iexact Hf
    iexact HRS
  iapply (run_all4 I K J d _ 0 1 rfl _ (is_first I K J d _ (by decide))) $$ H
  iintro H
  iapply (run_gemm_st I K J d true 1 _ 1 (by decide)) $$ H
  iintro H
  iapply (run_gemm_st I K J d false 1 _ 1 (by decide)) $$ H
  iintro H
  iapply (run_all4 I K J d _ 1 2 rfl _ (is_add I K J d _ 0 1 rfl (by decide))) $$ H
  iintro H
  iapply (run_gemm_st I K J d true 2 _ 2 (by decide)) $$ H
  iintro H
  iapply (run_gemm_st I K J d false 2 _ 2 (by decide)) $$ H
  iintro H
  iapply (run_all4 I K J d _ 2 3 rfl _ (is_add I K J d _ 1 2 rfl (by decide))) $$ H
  iintro H
  iapply (run_gemm_st I K J d true 3 _ 3 (by decide)) $$ H
  iintro H
  iapply (run_gemm_st I K J d false 3 _ 3 (by decide)) $$ H
  iintro H
  iapply (run_all4 I K J d _ 3 4 rfl _ (is_add I K J d _ 2 3 rfl (by decide))) $$ H
  iintro H
  iapply (run_gemm_st I K J d false 4 _ 4 (by decide)) $$ H
  iintro H
  iapply (run_all4 I K J d _ 4 5 rfl _ (is_add I K J d _ 3 4 rfl (by decide))) $$ H
  iintro H
  iapply (run_all4 I K J d _ 5 6 rfl _ (is_add I K J d _ 4 5 rfl (by decide))) $$ H
  iintro H
  iapply (run_all4 I K J d _ 6 7 rfl _ (is_add I K J d _ 5 6 rfl (by decide))) $$ H
  iintro H
  iapply (run_all4 I K J d _ 7 8 rfl _ (is_fin I K J d _ (by decide))) $$ H
  iintro H
  iapply (run_all4 I K J d _ 8 9 rfl _ (is_fwd I K J d _ 0 8 rfl)) $$ H
  iintro H
  iapply (run_all4 I K J d _ 9 10 rfl _ (is_fwd I K J d _ 1 9 rfl)) $$ H
  iintro H
  iapply (run_all4 I K J d _ 10 11 rfl _ (is_fwd I K J d _ 2 10 rfl)) $$ H
  iintro H
  iapply (run_all4 I K J d _ 11 12 rfl _ (is_fwd I K J d _ 3 11 rfl)) $$ H
  iintro H
  iapply (run_all4 I K J d _ 12 13 rfl _ (is_fwd I K J d _ 4 12 rfl)) $$ H
  iintro H
  iapply (run_all4 I K J d _ 13 14 rfl _ (is_fwd I K J d _ 5 13 rfl)) $$ H
  iintro H
  iapply (run_all4 I K J d _ 14 15 rfl _ (is_last I K J d _)) $$ H
  unfold env St
  rw [owAll_end]
  iintro ⟨⟨-, -, ⟨Hx, Hb⟩, Hsx, Hsw⟩, Ho, Hf, HRS⟩
  iapply Hk
  isplitl [Ho Hz HRS Hb]
  · isplitl [Ho]; · iexact Ho
    isplitl [Hz]; · iexact Hz
    isplitl [HRS]; · iexact HRS
    iexact Hb
  isplitl [Hx Hw Hsx Hsw]
  · isplitl [Hx]; · iexact Hx
    isplitl [Hw]; · iexact Hw
    isplitl [Hsx]; · iexact Hsx
    iexact Hsw
  iexists _
  iexact Hf

/-! ## The end -/

/-- A ring after its last stage: its cells at zero and its slots. -/
theorem RS_elim (d : Dev nD) (r : Fin 4) : (RS d r 15 : sProp 𝕄)
    ⊢ iprop((bigSep Finset.univ fun u : Fin 14 => iprop(semVal (cell d (kSnd r u)) 0 ∗ semVal (cell d (kRcv r u)) 0)) ∗ semVal (cell d (kCrd r)) 0 ∗ stAll d r ∗ coAll d r) := by
  unfold RS past tak coAll
  rw [show tk 15 = 11 from rfl, CrdSt_done d r rfl, show finUpTo 14 (15 - 1) = Finset.univ by decide,
    show (ext d r 15 : sProp 𝕄) = iprop(stAll d r ∗ coAny d r 0 ∗ coAny d r 1 ∗ coAny d r 2) from rfl,
    show (bigSep Finset.univ fun j : Fin 3 => (coAny d r j : sProp 𝕄)) = iprop(coAny d r 0 ∗ coAny d r 1 ∗ coAny d r 2) from
      bigSep_univ_eq_bigSepL [0, 1, 2] (by decide) (by decide) _]
  iintro ⟨-, -, Hp, -, ⟨Hc, -⟩, Hs, Hco⟩
  isplitl [Hp]; · iexact Hp
  isplitl [Hc]; · iexact Hc
  isplitl [Hs]; · iexact Hs
  iexact Hco

end Cert.RingProof

end
-- ==== Proof.Deal.lean ====
/-
  The tokens and credits of the start, dealt to the devices.

  The cells' tokens are made at the cells' own devices; each goes to the device that pays with it: the neighbour that
  signals the barrier, the device before on the ring for an arrival and for the slot it writes, the device after for a
  credit.
-/
module

public import proofs.«01_k».proof.Proof.Whole

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo mem_finFrom mem_finUpTo finFrom_zero)
open Idealize.ShloMosaic.Release (USlots)

variable {F : FTy → Type} [FloatOps F]

local notation "𝕄" => MT nD τ sig ℕ (Elt F) ℕ UU ℕ

variable (I : Inp F) (K : Dev nD × CK → ℕ) (J : SK → ℕ)

/-! ## Around the devices -/

/-- A resource of every device is one of every neighbour. -/
theorem shift (f g : Dev nD → Dev nD) (h1 : ∀ d, f (g d) = d) (h2 : ∀ d, g (f d) = d) (Φ : Dev nD → sProp 𝕄) :
    bigSep Finset.univ Φ = bigSep Finset.univ fun d => Φ (f d) := bigSep_univ_equiv ⟨f, g, h2, h1⟩ Φ
/-- The same of each ring's next device, -/
theorem shift_nxt (Φ : Dev nD → Fin 4 → sProp 𝕄) :
    (bigSep Finset.univ fun d => bigSep Finset.univ fun r => Φ d r) = bigSep Finset.univ fun d => bigSep Finset.univ fun r => Φ (nxt r d) r := by
  rw [bigSep_univ_comm, bigSep_univ_comm fun d r => Φ (nxt r d) r]
  exact bigSep_congr fun r _ => shift (nxt r) (prv r) (nxt_prv r) (prv_nxt r) fun d => Φ d r
/-- and of the one before. -/
theorem shift_prv (Φ : Dev nD → Fin 4 → sProp 𝕄) :
    (bigSep Finset.univ fun d => bigSep Finset.univ fun r => Φ d r) = bigSep Finset.univ fun d => bigSep Finset.univ fun r => Φ (prv r d) r := by
  rw [bigSep_univ_comm, bigSep_univ_comm fun d r => Φ (prv r d) r]
  exact bigSep_congr fun r _ => shift (prv r) (nxt r) (prv_nxt r) (nxt_prv r) fun d => Φ d r

/-! ## Credits -/

/-- The credits of a ring's waits. -/
def credOf (d : Dev nD) (r : Fin 4) : sProp 𝕄 :=
  iprop((bigSep (finFrom 14 0) fun u : Fin 14 => cred (tallyAt (cell d (kRcv r u)) (2 * u.val + 2) N))
    ∗ bigSep (finFrom 11 0) fun k : Fin 11 => cred (tallyAt (cell d (kCrd r)) (2 * k.val + 5) 1))

theorem cred_bar (c : Dev nD) :
    iprop(Pipeline.launchCred (fun d => tallyAt (cell (rgt d) kBar) 1 1) c ∗ Pipeline.launchCred (fun d => tallyAt (cell (lft d) kBar) 1 1) c)
      ⊢ (cred (tallyAt (cell c kBar) 1 2) : sProp 𝕄) := by
  rw [show (tallyAt (cell c kBar) 1 2 : CellTallies nD τ sig ℕ) = tallyAt (cell c kBar) 1 1 + tallyAt (cell c kBar) 1 1 from (tallyAt_add _ _ 1 1).symm]
  exact (BIClass.sep_mono (Pipeline.launchCred_tallyAt (csem kBar) rgt lft rgt_lft lft_rgt 1 1 c)
    (Pipeline.launchCred_tallyAt (csem kBar) lft rgt lft_rgt rgt_lft 1 1 c)).trans (cred_add _ _).2

theorem cred_ring (c : Dev nD) (r : Fin 4) : (Pipeline.launchCred (fun d => ringOw r d 0 (cs 0)) c : sProp 𝕄) ⊢ credOf c r := by
  unfold ringOw credOf
  rw [show cs 0 = 0 from rfl, Pipeline.launchCred_add (fun d => ∑ u ∈ finFrom 14 0, tallyAt (cell (nxt r d) (kRcv r u)) (2 * u.val + 2) N)
    (fun d => ∑ k ∈ finFrom 11 0, tallyAt (cell (prv r d) (kCrd r)) (2 * k.val + 5) 1),
    Pipeline.launchCred_sum (finFrom 14 0) (fun u d => tallyAt (cell (nxt r d) (kRcv r u)) (2 * u.val + 2) N),
    Pipeline.launchCred_sum (finFrom 11 0) (fun k d => tallyAt (cell (prv r d) (kCrd r)) (2 * k.val + 5) 1)]
  exact BIClass.sep_mono (bigSep_mono fun u _ => Pipeline.launchCred_tallyAt (csem (kRcv r u)) (nxt r) (prv r) (nxt_prv r) (prv_nxt r) _ _ c)
    (bigSep_mono fun k _ => Pipeline.launchCred_tallyAt (csem (kCrd r)) (prv r) (nxt r) (prv_nxt r) (nxt_prv r) _ _ c)

theorem cred_rings (c : Dev nD) : (bigSep Finset.univ fun r => Pipeline.launchCred (fun d => ringOw r d 0 (cs 0)) c : sProp 𝕄)
    ⊢ bigSep Finset.univ fun r => credOf c r := bigSep_mono fun r _ => cred_ring c r

/-- What everybody owes a device, as its own credits. -/
theorem creds (c : Dev nD) :
    (Pipeline.launchCred O₀ c : sProp 𝕄) ⊢ iprop(cred (tallyAt (cell c kBar) 1 2) ∗ bigSep Finset.univ fun r => credOf c r) := by
  have h : (Pipeline.launchCred O₀ c : sProp 𝕄) = iprop((bigSep Finset.univ fun r => Pipeline.launchCred (fun d => ringOw r d 0 (cs 0)) c)
      ∗ (Pipeline.launchCred (fun d => tallyAt (cell (rgt d) kBar) 1 1) c ∗ Pipeline.launchCred (fun d => tallyAt (cell (lft d) kBar) 1 1) c)) := by
    rw [← Pipeline.launchCred_add, ← Pipeline.launchCred_sum, ← Pipeline.launchCred_add]
    exact congrArg (fun O => (Pipeline.launchCred O c : sProp 𝕄)) (funext fun d => add_assoc _ _ _)
  rw [h]
  iintro ⟨H, Hb⟩
  isplitl [Hb]; · iapply (cred_bar c) $$ Hb
  iapply (cred_rings c) $$ H

/-! ## Tokens -/

/-- The departure cells' tokens of a device, -/
def tSnd (d : Dev nD) (r : Fin 4) : sProp 𝕄 := bigSep Finset.univ fun u : Fin 14 => dutyTok ER (cell d (kSnd r u)) 0 0
/-- the arrival cells', -/
def tRcv (d : Dev nD) (r : Fin 4) : sProp 𝕄 := bigSep Finset.univ fun u : Fin 14 => dutyTok ER (cell d (kRcv r u)) 0 0
/-- the credits', -/
def tCrd (d : Dev nD) (r : Fin 4) : sProp 𝕄 := bigSep Finset.univ fun k : Fin 11 => dutyTok ER (cell d (kCrd r)) 0 k.val
/-- those of the writes into its slots, -/
def tWr (d : Dev nD) (r : Fin 4) : sProp 𝕄 :=
  bigSep Finset.univ fun u : Fin 14 => Release.writeTok ES ((d, (r, slotOf u.val)) : SK) (u.val / 3 + 1)
/-- and its slots' counts. -/
def rdrs (d : Dev nD) : sProp 𝕄 := bigSep Finset.univ fun r : Fin 4 => bigSep Finset.univ fun j : Fin 3 => Release.readerAt ES ((d, (r, j)) : SK) 0

/-- The tokens made at a device's cells, -/
def made (d : Dev nD) : sProp 𝕄 :=
  iprop((dutyTok ER (cell d kBar) 0 0 ∗ dutyTok ER (cell d kBar) 0 1) ∗ (bigSep Finset.univ fun r => tSnd d r) ∗ (bigSep Finset.univ fun r => tRcv d r)
    ∗ (bigSep Finset.univ fun r => tCrd d r))
/-- and those it pays with. -/
def held (d : Dev nD) : sProp 𝕄 :=
  iprop((dutyTok ER (cell (rgt d) kBar) 0 0 ∗ dutyTok ER (cell (lft d) kBar) 0 1) ∗ (bigSep Finset.univ fun r => tSnd d r)
    ∗ (bigSep Finset.univ fun r => tRcv (nxt r d) r) ∗ (bigSep Finset.univ fun r => tCrd (prv r d) r))

theorem made_held : (bigSep Finset.univ fun d => made d : sProp 𝕄) = bigSep Finset.univ fun d => held d := by
  unfold made held
  rw [bigSep_sep', bigSep_sep', bigSep_sep', bigSep_sep', bigSep_sep', bigSep_sep', bigSep_sep', bigSep_sep',
    shift rgt lft rgt_lft lft_rgt fun d => (dutyTok ER (cell d kBar) 0 0 : sProp 𝕄),
    shift lft rgt lft_rgt rgt_lft fun d => (dutyTok ER (cell d kBar) 0 1 : sProp 𝕄), shift_nxt fun d r => (tRcv d r : sProp 𝕄),
    shift_prv fun d r => (tCrd d r : sProp 𝕄)]

/-- Which token: of the barrier, of a departure, of an arrival, of a credit. -/
abbrev TI : Type := Fin 2 ⊕ ((Fin 4 × Fin 14) ⊕ ((Fin 4 × Fin 14) ⊕ (Fin 4 × Fin 11)))
/-- Its cell, -/
def tkC : TI → CK
  | .inl _ => kBar
  | .inr (.inl x) => kSnd x.1 x.2
  | .inr (.inr (.inl x)) => kRcv x.1 x.2
  | .inr (.inr (.inr x)) => kCrd x.1
/-- its duty, -/
def tkN : TI → ℕ
  | .inl b => b.val
  | .inr (.inr (.inr x)) => x.2.val
  | _ => 0
/-- and the token back from them. -/
def tkOf : CK → ℕ → TI
  | .inl _, n => .inl (Fin.ofNat 2 n)
  | .inr (.inl x), _ => .inr (.inl x)
  | .inr (.inr (.inl x)), _ => .inr (.inr (.inl x))
  | .inr (.inr (.inr r)), n => .inr (.inr (.inr (r, Fin.ofNat 11 n)))
theorem tkOf_tk : ∀ t : TI, tkOf (tkC t) (tkN t) = t := by decide +kernel

abbrev kcell (x : Dev nD × CK) : GSem nD τ sig := cell x.1 x.2
theorem kcell_inj : Function.Injective kcell := fun x y h => Prod.ext (cell_inj h).1 (cell_inj h).2
def tokOf (x : Dev nD × TI) : GSem nD τ sig × ℕ × ℕ := (cell x.1 (tkC x.2), 0, tkN x.2)
theorem tokOf_inj : Function.Injective tokOf := fun x y h => by
  have h1 := cell_inj (congrArg Prod.fst h)
  have h2 : tkN x.2 = tkN y.2 := congrArg (fun z : GSem nD τ sig × ℕ × ℕ => z.2.2) h
  exact Prod.ext h1.1 (by rw [← tkOf_tk x.2, ← tkOf_tk y.2, h1.2, h2])

/-- All the cells, -/
def ringCells : Finset (GSem nD τ sig) := Finset.univ.map ⟨kcell, kcell_inj⟩
/-- all their tokens. -/
def ringToks : Finset (GSem nD τ sig × ℕ × ℕ) := Finset.univ.map ⟨tokOf, tokOf_inj⟩

theorem cells_eq (Φ : GSem nD τ sig → sProp 𝕄) :
    bigSep ringCells Φ = bigSep Finset.univ fun d : Dev nD => bigSep Finset.univ fun k : CK => Φ (cell d k) := by
  unfold ringCells; rw [bigSep_map, bigSep_univ_prod]; rfl
theorem toks_eq : (bigSep ringToks fun x => dutyTok ER x.1 x.2.1 x.2.2 : sProp 𝕄) = bigSep Finset.univ fun d : Dev nD => made d := by
  unfold ringToks
  rw [bigSep_map, bigSep_univ_prod]
  refine bigSep_congr fun d _ => ?_
  rw [bigSep_univ_sum, bigSep_univ_sum, bigSep_univ_sum, bigSep_univ_prod, bigSep_univ_prod, bigSep_univ_prod, bigSep_univ_two]
  rfl

/-! ## Slots -/

/-- The write tokens made, as many as there are writes. -/
def wrIx (y : Dev nD × (Fin 4 × Fin 14)) : SK × ℕ := ((y.1, (y.2.1, slotOf y.2.2.val)), y.2.2.val / 3)
theorem wr_ix : ∀ u u' : Fin 14, slotOf u.val = slotOf u'.val → u.val / 3 = u'.val / 3 → u = u' := by decide +kernel
theorem wrIx_inj : Function.Injective wrIx := fun y y' h => by
  have h1 : y.1 = y'.1 := congrArg (fun z : SK × ℕ => z.1.1) h
  have h2 : y.2.1 = y'.2.1 := congrArg (fun z : SK × ℕ => z.1.2.1) h
  have h3 : slotOf y.2.2.val = slotOf y'.2.2.val := congrArg (fun z : SK × ℕ => z.1.2.2) h
  have h4 : y.2.2.val / 3 = y'.2.2.val / 3 := congrArg (fun z : SK × ℕ => z.2) h
  exact Prod.ext h1 (Prod.ext h2 (wr_ix _ _ h3 h4))

theorem writes_eq : (bigSep ((Finset.univ : Finset SK) ×ˢ Finset.range 5) fun x => Release.writeTok ES x.1 (x.2 + 1) : sProp 𝕄)
    ⊢ bigSep Finset.univ fun d : Dev nD => bigSep Finset.univ fun r : Fin 4 => tWr (nxt r d) r := by
  have hsub : Finset.univ.map ⟨wrIx, wrIx_inj⟩ ⊆ (Finset.univ : Finset SK) ×ˢ Finset.range 5 := fun x hx => by
    obtain ⟨y, -, rfl⟩ := Finset.mem_map.mp hx
    refine Finset.mem_product.mpr ⟨Finset.mem_univ _, Finset.mem_range.mpr ?_⟩
    show y.2.2.val / 3 < 5
    have := y.2.2.isLt
    omega
  refine (show (_ : sProp 𝕄) ⊢ _ from bigSep_subset hsub).trans (Entails.of_eq ?_)
  rw [bigSep_map, bigSep_univ_prod, ← shift_nxt fun d r => (tWr d r : sProp 𝕄)]
  refine bigSep_congr fun d _ => ?_
  rw [bigSep_univ_prod]
  rfl

theorem readers_eq : (bigSep (Finset.univ : Finset SK) fun k => Release.readerAt ES k 0 : sProp 𝕄) = bigSep Finset.univ fun d : Dev nD => rdrs d := by
  rw [bigSep_univ_prod]
  refine bigSep_congr fun d _ => ?_
  rw [bigSep_univ_prod]
  rfl

/-- The slots' invariants, at some names. -/
def slotInvs : sProp 𝕄 := iprop(∃ J : SK → ℕ, bigSep Finset.univ fun k : SK => Release.slotInv ES (J k) k (coAny k.1 k.2.1 k.2.2))
instance slotInvs_persistent : BI.Persistent (slotInvs (F := F)) := by unfold slotInvs; infer_instance

/-- The start's element: the cells' and the slots'. -/
def uc : UC := (initOf ringCells ringToks, Release.initSlots Finset.univ 5)

/-- What it deals a device. -/
def G (d : Dev nD) : sProp 𝕄 :=
  iprop((bigSep Finset.univ fun k : CK => roundState ER (Rd I) (cell d k) 0)
    ∗ (bigSep Finset.univ fun k : CK => reached ER (cell d k) 0) ∗ slotInvs
    ∗ (bigSep Finset.univ fun k : CK => atPos ER (cell d k) 0 ∅ 0) ∗ held d ∗ rdrs d ∗ bigSep Finset.univ fun r : Fin 4 => tWr (nxt r d) r)

theorem G_all :
    iprop((bigSep Finset.univ fun d : Dev nD => bigSep Finset.univ fun k : CK => roundState ER (Rd I) (cell d k) 0)
    ∗ (bigSep Finset.univ fun d : Dev nD => bigSep Finset.univ fun k : CK => reached ER (cell d k) 0) ∗ (bigSep Finset.univ fun _ : Dev nD => slotInvs)
    ∗ (bigSep Finset.univ fun d : Dev nD => bigSep Finset.univ fun k : CK => atPos ER (cell d k) 0 ∅ 0) ∗ (bigSep Finset.univ fun d : Dev nD => held d)
    ∗ (bigSep Finset.univ fun d : Dev nD => rdrs d) ∗ bigSep Finset.univ fun d : Dev nD => bigSep Finset.univ fun r : Fin 4 => tWr (nxt r d) r)
      = (bigSep Finset.univ fun d => G I d : sProp 𝕄) := by
  unfold G
  rw [bigSep_sep', bigSep_sep', bigSep_sep', bigSep_sep', bigSep_sep', bigSep_sep']

theorem slots_all : (slotInvs : sProp 𝕄) ⊢ bigSep Finset.univ fun _ : Dev nD => slotInvs := bigSep_intro_persistent fun _ _ => .rfl

theorem fund_all : (BI.own (EC uc) : sProp 𝕄) ⊢ |={Set.univ}=> bigSep Finset.univ fun d => G I d := by
  unfold uc
  iintro Hu
  ihave H := (own_pair_emb EC _ _) $$ Hu
  icases H with ⟨HR, HS⟩
  imod (Rounds.fund ER (Rd I) ringCells ringToks) $$ HR with ⟨Hst, Hr, Hat, Htok⟩
  imod (Release.slots_init ES (Finset.univ : Finset SK) 5 (fun k => coAny k.1 k.2.1 k.2.2)) $$ HS with ⟨%J, -, HJ, Hrd, Hwr⟩
  imodintro
  ihave Hst := (Entails.of_eq (cells_eq fun g => roundState ER (Rd I) g 0)) $$ Hst
  ihave Hr := (Entails.of_eq (cells_eq fun g => reached ER g 0)) $$ Hr
  ihave Hat := (Entails.of_eq (cells_eq fun g => atPos ER g 0 ∅ 0)) $$ Hat
  ihave Htok := (Entails.of_eq (toks_eq.trans made_held)) $$ Htok
  ihave Hrd := (Entails.of_eq readers_eq) $$ Hrd
  ihave Hwr := writes_eq $$ Hwr
  ihave HJ : slotInvs $$ [HJ]
  · unfold slotInvs; iexists J; iexact HJ
  ihave HJ := slots_all $$ HJ
  iapply (Entails.of_eq (G_all I))
  isplitl [Hst]; · iexact Hst
  isplitl [Hr]; · iexact Hr
  isplitl [HJ]; · iexact HJ
  isplitl [Hat]; · iexact Hat
  isplitl [Htok]; · iexact Htok
  isplitl [Hrd]; · iexact Hrd
  iexact Hwr

/-! ## The invariants -/

/-- What a device has when the invariants are made. -/
def own' (d : Dev nD) : sProp 𝕄 :=
  iprop((bigSep Finset.univ fun k : CK => atPos ER (cell d k) 0 ∅ 0) ∗ held d ∗ rdrs d ∗ bigSep Finset.univ fun r : Fin 4 => tWr (nxt r d) r)
/-- The invariants of all cells and slots. -/
def invs : sProp 𝕄 :=
  iprop((∃ K : Dev nD × CK → ℕ, bigSep Finset.univ fun x : Dev nD × CK => cellInv ER (Rd I) (K x) (cell x.1 x.2))
    ∗ (bigSep Finset.univ fun x : Dev nD × CK => reached ER (cell x.1 x.2) 0) ∗ slotInvs)
instance invs_persistent : BI.Persistent (invs I) := by unfold invs; infer_instance
def G' (d : Dev nD) : sProp 𝕄 := iprop(invs I ∗ own' d)

theorem unscoped_eq (c : Dev nD) : (unscopedSems0 c : sProp 𝕄) = semVal (cell c kBar) 0 := by
  unfold unscopedSems0
  rw [bigSep_eq_bigSepL_of_eq [SemLoc.reg barSem] (by decide +kernel) (by decide +kernel)]
  rfl
/-- All cells at zero. -/
theorem sems_eq (c : Dev nD) : iprop(Pipeline.ownSems0 osem c ∗ unscopedSems0 c)
    ⊢ (bigSep Finset.univ fun k : CK => semVal (cell c k) 0 : sProp 𝕄) := by
  rw [show (bigSep Finset.univ fun k : CK => (semVal (cell c k) 0 : sProp 𝕄)) = iprop((bigSep Finset.univ fun a : Unit => semVal (cell c (.inl a)) 0)
    ∗ bigSep Finset.univ fun k : OK => semVal (cell c (.inr k)) 0) from bigSep_univ_sum _, unscoped_eq]
  unfold Pipeline.ownSems0
  iintro ⟨H, Hb⟩
  isplitl [Hb]
  · iapply (Entails.of_eq (bigSep_univ_at (fun a : Unit => (semVal (cell c (.inl a)) 0 : sProp 𝕄)) ()).symm)
    isplitl [Hb]; · iexact Hb
    iapply (Entails.of_eq (show (iprop(emp) : sProp 𝕄) = bigSep (Finset.univ.erase ()) fun a : Unit => semVal (cell c (.inl a)) 0 from by
      rw [show (Finset.univ.erase () : Finset Unit) = ∅ from rfl, bigSep_empty]; rfl))
    iempintro
  · iexact H

theorem cells_alloc (c : Dev nD) :
    iprop((bigSep Finset.univ fun k : CK => semVal (cell c k) 0) ∗ (bigSep Finset.univ fun k : CK => roundState ER (Rd I) (cell c k) 0))
      ⊢ (|={Set.univ}=> bigSep Finset.univ fun k : CK => iprop(∃ n : ℕ, cellInv ER (Rd I) n (cell c k)) : sProp 𝕄) := by
  rw [← bigSep_sep']
  exact (bigSep_mono fun k _ => (Rounds.body_intro ER (Rd I) (cell c k)).trans inv_alloc).trans (bigSep_fupd _ _)

theorem alloc_one (c : Dev nD) : iprop(Pipeline.ownSems0 osem c ∗ unscopedSems0 c ∗ G I c)
    ⊢ (|={Set.univ}=> iprop((bigSep Finset.univ fun k : CK => iprop(∃ n : ℕ, cellInv ER (Rd I) n (cell c k)))
      ∗ (bigSep Finset.univ fun k : CK => reached ER (cell c k) 0) ∗ slotInvs ∗ own' c) : sProp 𝕄) := by
  unfold G own'
  iintro ⟨H1, H2, Hst, Hr, Hj, H⟩
  ihave Hs := (sems_eq c) $$ [H1 H2]
  · isplitl [H1]; · iexact H1
    iexact H2
  imod (cells_alloc I c) $$ [Hs Hst] with Hc
  · isplitl [Hs]; · iexact Hs
    iexact Hst
  imodintro
  isplitl [Hc]; · iexact Hc
  isplitl [Hr]; · iexact Hr
  isplitl [Hj]; · iexact Hj
  iexact H

theorem names_all : (bigSep Finset.univ fun c : Dev nD => bigSep Finset.univ fun k : CK => iprop(∃ n : ℕ, cellInv ER (Rd I) n (cell c k)) : sProp 𝕄)
    ⊢ iprop(∃ K : Dev nD × CK → ℕ, bigSep Finset.univ fun x : Dev nD × CK => cellInv ER (Rd I) (K x) (cell x.1 x.2)) := by
  rw [← bigSep_univ_prod fun x : Dev nD × CK => iprop(∃ n : ℕ, cellInv ER (Rd I) n (cell x.1 x.2))]
  exact bigSep_exists_pi Finset.univ fun (x : Dev nD × CK) (n : ℕ) => cellInv ER (Rd I) n (cell x.1 x.2)

theorem slots_one : (bigSep Finset.univ fun _ : Dev nD => slotInvs : sProp 𝕄) ⊢ slotInvs := bigSep_elim (Finset.mem_univ (0 : Dev nD))

theorem glob : (bigSep Finset.univ fun c => iprop(Pipeline.ownSems0 osem c ∗ unscopedSems0 c ∗ G I c) : sProp 𝕄)
    ⊢ |={Set.univ}=> bigSep Finset.univ fun c => G' I c := by
  refine (show (_ : sProp 𝕄) ⊢ _ from (bigSep_mono fun c _ => alloc_one I c).trans (bigSep_fupd _ _)).trans (fupd_mono ?_)
  rw [bigSep_sep', bigSep_sep', bigSep_sep']
  iintro ⟨Hc, Hr, Hj, Ho⟩
  ihave Hc := (names_all I) $$ Hc
  ihave Hr := (Entails.of_eq (bigSep_univ_prod fun x : Dev nD × CK => (reached ER (cell x.1 x.2) 0 : sProp 𝕄)).symm) $$ Hr
  ihave Hj := slots_one $$ Hj
  unfold G'
  iapply (bigSep_with_persistent (R := invs I) (S := Finset.univ) (Φ := fun c => own' c) fun c _ => .rfl)
  isplitr [Ho]
  · unfold invs
    isplitl [Hc]; · iexact Hc
    isplitl [Hr]; · iexact Hr
    iexact Hj
  · iexact Ho

/-! ## A device's start -/

/-- Everything but the buffers. -/
def startTok (d : Dev nD) : sProp 𝕄 := iprop(barTok d ∗ (bigSep Finset.univ fun r => ringTok d r) ∗ rdrs d)

theorem pos_eq (d : Dev nD) : (bigSep Finset.univ fun k : CK => atPos ER (cell d k) 0 ∅ 0 : sProp 𝕄)
    ⊢ iprop(atPos ER (cell d kBar) 0 ∅ 0 ∗ bigSep Finset.univ fun r : Fin 4 => iprop((bigSep Finset.univ fun u : Fin 14 => atPos ER (cell d (kSnd r u)) 0 ∅ 0)
      ∗ (bigSep Finset.univ fun u : Fin 14 => atPos ER (cell d (kRcv r u)) 0 ∅ 0) ∗ atPos ER (cell d (kCrd r)) 0 ∅ 0)) := by
  rw [bigSep_sep', bigSep_sep', bigSep_univ_sum, bigSep_univ_sum, bigSep_univ_sum, bigSep_univ_prod, bigSep_univ_prod]
  exact sep_mono_left (bigSep_elim (Finset.mem_univ ()))

theorem ringTok_intro (d : Dev nD) (r : Fin 4) :
    iprop(((bigSep Finset.univ fun u : Fin 14 => atPos ER (cell d (kSnd r u)) 0 ∅ 0) ∗ (bigSep Finset.univ fun u : Fin 14 => atPos ER (cell d (kRcv r u)) 0 ∅ 0)
        ∗ atPos ER (cell d (kCrd r)) 0 ∅ 0) ∗ tSnd d r ∗ tRcv (nxt r d) r ∗ tCrd (prv r d) r ∗ tWr (nxt r d) r ∗ credOf d r)
      ⊢ (ringTok d r : sProp 𝕄) := by
  unfold ringTok toks pend tak tSnd tRcv tCrd tWr credOf
  rw [CrdSt_open d r (m := 0) (by decide)]
  simp only [finFrom_zero, bigSep_sep']
  iintro ⟨⟨H1, H2, H3⟩, H4, H5, H6, H7, H8, H9⟩
  isplitl [H4 H5 H7]
  · isplitl [H4]; · iexact H4
    isplitl [H5]; · iexact H5
    iexact H7
  isplitl [H1 H2 H8]
  · isplitl [H1]; · iexact H1
    isplitl [H2]; · iexact H2
    iexact H8
  isplitl [H6]; · iexact H6
  isplitl [H3]
  · iexists ∅
    isplitl [H3]; · iexact H3
    rw [bigSep_empty]
    iempintro
  iexact H9

theorem ringTok_all (d : Dev nD) :
    iprop((bigSep Finset.univ fun r : Fin 4 => iprop((bigSep Finset.univ fun u : Fin 14 => atPos ER (cell d (kSnd r u)) 0 ∅ 0)
        ∗ (bigSep Finset.univ fun u : Fin 14 => atPos ER (cell d (kRcv r u)) 0 ∅ 0) ∗ atPos ER (cell d (kCrd r)) 0 ∅ 0))
      ∗ (bigSep Finset.univ fun r => tSnd d r) ∗ (bigSep Finset.univ fun r => tRcv (nxt r d) r) ∗ (bigSep Finset.univ fun r => tCrd (prv r d) r)
      ∗ (bigSep Finset.univ fun r => tWr (nxt r d) r) ∗ bigSep Finset.univ fun r => credOf d r)
      ⊢ (bigSep Finset.univ fun r => ringTok d r : sProp 𝕄) := by
  rw [← bigSep_sep', ← bigSep_sep', ← bigSep_sep', ← bigSep_sep', ← bigSep_sep']
  exact bigSep_mono fun r _ => ringTok_intro d r

theorem startTok_intro (d : Dev nD) : iprop(own' d ∗ Pipeline.launchCred O₀ d) ⊢ (startTok d : sProp 𝕄) := by
  unfold own' held startTok barTok
  iintro ⟨⟨Hp, ⟨⟨Hb0, Hb1⟩, Hs, Hr, Hc⟩, Hrd, Hw⟩, Hcr⟩
  ihave Hp := (pos_eq d) $$ Hp
  icases Hp with ⟨Hpb, Hp⟩
  ihave Hcr := (creds d) $$ Hcr
  icases Hcr with ⟨Hcb, Hcr⟩
  isplitl [Hb0 Hb1 Hpb Hcb]
  · isplitl [Hb1]; · iexact Hb1
    isplitl [Hb0]; · iexact Hb0
    isplitl [Hpb]; · iexact Hpb
    iexact Hcb
  isplitr [Hrd]
  · iapply (ringTok_all d)
    isplitl [Hp]; · iexact Hp
    isplitl [Hs]; · iexact Hs
    isplitl [Hr]; · iexact Hr
    isplitl [Hc]; · iexact Hc
    isplitl [Hw]; · iexact Hw
    iexact Hcr
  · iexact Hrd

end Cert.RingProof

end
-- ==== Proof.Bufs.lean ====
/-
  The scratch buffers as their slots, and the result's contents at the end.
-/
module

public import proofs.«01_k».proof.Proof.Deal

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots)

variable {F : FTy → Type} [FloatOps F]

local notation "𝕄" => MT nD τ sig ℕ (Elt F) ℕ UU ℕ

variable (I : Inp F)

/-! ## A buffer and its slots -/

section Slots
variable {ℓ : Loc nD τ sig} {K : Fin 4 × Fin 3 → Finset (Idx ℓ)}

theorem slots_split (hd : ∀ x y, x ≠ y → Disjoint (K x) (K y)) (hc : Finset.univ.biUnion K = Finset.univ) :
    iprop(∃ f : Buf (Elt F) ℓ, ℓ ↦{fullShare} f)
      ⊢ (bigSep Finset.univ fun r : Fin 4 => bigSep Finset.univ fun j : Fin 3 => iprop(∃ f : Buf (Elt F) ℓ, ℓ ↦[K (r, j)]{fullShare} f) : sProp 𝕄) := by
  rw [← bigSep_univ_prod fun x : Fin 4 × Fin 3 => iprop(∃ f : Buf (Elt F) ℓ, ℓ ↦[K x]{fullShare} f)]
  iintro ⟨%f, H⟩
  ihave H := (Entails.of_eq (show (ℓ ↦{fullShare} f : sProp 𝕄) = bigSep Finset.univ fun x => ℓ ↦[K x]{fullShare} f from by
    rw [← pointsTo_biUnion Finset.univ K fun x _ y _ h => hd x y h, hc])) $$ H
  iapply (show (_ : sProp 𝕄) ⊢ _ from bigSep_mono fun x _ => exists_intro (Φ := fun f : Buf (Elt F) ℓ => ℓ ↦[K x]{fullShare} f) f) $$ H

theorem slots_join (hd : ∀ x y, x ≠ y → Disjoint (K x) (K y)) (hc : Finset.univ.biUnion K = Finset.univ) :
    (bigSep Finset.univ fun r : Fin 4 => bigSep Finset.univ fun j : Fin 3 => iprop(∃ f : Buf (Elt F) ℓ, ℓ ↦[K (r, j)]{fullShare} f) : sProp 𝕄)
      ⊢ iprop(∃ f : Buf (Elt F) ℓ, ℓ ↦{fullShare} f) := by
  rw [← bigSep_univ_prod fun x : Fin 4 × Fin 3 => iprop(∃ f : Buf (Elt F) ℓ, ℓ ↦[K x]{fullShare} f)]
  iintro H
  ihave H := (bigSep_exists_pi Finset.univ fun (x : Fin 4 × Fin 3) (f : Buf (Elt F) ℓ) => (ℓ ↦[K x]{fullShare} f : sProp 𝕄)) $$ H
  icases H with ⟨%fs, H⟩
  ihave H := (pointsTo_biUnion_join Finset.univ K fs (fs (0, 0)) fun x _ y _ h => hd x y h) $$ H
  icases H with ⟨%g, -, H⟩
  iexists g
  iapply (Entails.of_eq (show (ℓ ↦[Finset.univ.biUnion K]{fullShare} g : sProp 𝕄) = ℓ ↦{fullShare} g from by rw [hc])) $$ H

end Slots

theorem mem_slotR {r : Fin 4} {j : Fin 3} {y : S4x3x512x512.Idx} : y ∈ (slotR r j).set ↔ (y 0).val = r.val ∧ (y 1).val = j.val := by
  rw [Rect.mem_set_unit]
  have h2 : (y 2).val < 512 := (y 2).isLt
  have h3 : (y 3).val < 512 := (y 3).isLt
  constructor
  · intro h
    have h0 : r.val ≤ (y 0).val ∧ (y 0).val < r.val + 1 := h 0
    have h1 : j.val ≤ (y 1).val ∧ (y 1).val < j.val + 1 := h 1
    omega
  · rintro ⟨h0, h1⟩ a
    fin_cases a
    · show r.val ≤ (y 0).val ∧ (y 0).val < r.val + 1; omega
    · show j.val ≤ (y 1).val ∧ (y 1).val < j.val + 1; omega
    · show 0 ≤ (y 2).val ∧ (y 2).val < 0 + 512; omega
    · show 0 ≤ (y 3).val ∧ (y 3).val < 0 + 512; omega

theorem slotR_disj (x y : Fin 4 × Fin 3) (h : x ≠ y) : Disjoint (slotR x.1 x.2).set (slotR y.1 y.2).set :=
  Finset.disjoint_left.mpr fun z h1 h2 => h (by
    rw [mem_slotR] at h1 h2
    exact Prod.ext (Fin.ext (h1.1.symm.trans h2.1)) (Fin.ext (h1.2.symm.trans h2.2)))
theorem slotR_cover : (Finset.univ.biUnion fun x : Fin 4 × Fin 3 => (slotR x.1 x.2).set) = (Finset.univ : Finset S4x3x512x512.Idx) :=
  Finset.eq_univ_of_forall fun z => Finset.mem_biUnion.mpr ⟨(⟨(z 0).val, (z 0).isLt⟩, ⟨(z 1).val, (z 1).isLt⟩), Finset.mem_univ _, mem_slotR.mpr ⟨rfl, rfl⟩⟩

theorem st_rect (r : Fin 4) (j : Fin 3) : (stS r j).view.set = (slotR r j).set :=
  (st_set r j).trans ((View.set_slice _ _).trans (Finset.map_refl))
theorem co_rect (r : Fin 4) (j : Fin 3) : (coS r j).view.set = (slotR r j).set :=
  (co_set r j).trans ((View.set_slice _ _).trans (Finset.map_refl))

/-- The elements of a stage slot, -/
def stK (x : Fin 4 × Fin 3) : Finset S4x3x512x512.Idx := (stS x.1 x.2).view.set
/-- of a receive slot. -/
def coK (x : Fin 4 × Fin 3) : Finset S4x3x512x512.Idx := (coS x.1 x.2).view.set
theorem stK_eq (x : Fin 4 × Fin 3) : stK x = (slotR x.1 x.2).set := st_rect x.1 x.2
theorem coK_eq (x : Fin 4 × Fin 3) : coK x = (slotR x.1 x.2).set := co_rect x.1 x.2

theorem stK_disj (x y : Fin 4 × Fin 3) (h : x ≠ y) : Disjoint (stK x) (stK y) := by rw [stK_eq, stK_eq]; exact slotR_disj x y h
theorem coK_disj (x y : Fin 4 × Fin 3) (h : x ≠ y) : Disjoint (coK x) (coK y) := by rw [coK_eq, coK_eq]; exact slotR_disj x y h
theorem stK_cover : Finset.univ.biUnion stK = Finset.univ := (Finset.biUnion_congr rfl fun x _ => stK_eq x).trans slotR_cover
theorem coK_cover : Finset.univ.biUnion coK = Finset.univ := (Finset.biUnion_congr rfl fun x _ => coK_eq x).trans slotR_cover

abbrev stL (d : Dev nD) : Loc nD τ sig := (d : Thread nD τ).loc cc0_scratch1
abbrev coL (d : Dev nD) : Loc nD τ sig := (d : Thread nD τ).loc cc0_scratch2

theorem stAny_eq (d : Dev nD) (r : Fin 4) (j : Fin 3) :
    (stAny d r j : sProp 𝕄) = iprop(∃ f : Buf (Elt F) (stL d), stL d ↦[stK (r, j)]{fullShare} f) := by unfold stAny stK; rfl
theorem coAny_eq (d : Dev nD) (r : Fin 4) (j : Fin 3) :
    (coAny d r j : sProp 𝕄) = iprop(∃ f : Buf (Elt F) (coL d), coL d ↦[coK (r, j)]{fullShare} f) := by unfold coAny Release.slot coK; rfl
theorem stAll_eq (d : Dev nD) : (bigSep Finset.univ fun r => stAll d r : sProp 𝕄)
    = bigSep Finset.univ fun r : Fin 4 => bigSep Finset.univ fun j : Fin 3 => iprop(∃ f : Buf (Elt F) (stL d), stL d ↦[stK (r, j)]{fullShare} f) :=
  bigSep_congr fun r _ => bigSep_congr fun j _ => stAny_eq d r j
theorem coAll_eq (d : Dev nD) : (bigSep Finset.univ fun r => coAll d r : sProp 𝕄)
    = bigSep Finset.univ fun r : Fin 4 => bigSep Finset.univ fun j : Fin 3 => iprop(∃ f : Buf (Elt F) (coL d), coL d ↦[coK (r, j)]{fullShare} f) :=
  bigSep_congr fun r _ => bigSep_congr fun j _ => coAny_eq d r j

/-- The stage buffer is its slots; -/
theorem st_buf (d : Dev nD) : iprop(∃ f : Buf (Elt F) (stL d), stL d ↦{fullShare} f) ⊢ (bigSep Finset.univ fun r => stAll d r : sProp 𝕄) := by
  rw [stAll_eq]; exact slots_split stK_disj stK_cover
theorem st_back (d : Dev nD) : (bigSep Finset.univ fun r => stAll d r : sProp 𝕄) ⊢ iprop(∃ f : Buf (Elt F) (stL d), stL d ↦{fullShare} f) := by
  rw [stAll_eq]; exact slots_join stK_disj stK_cover
/-- so is the receive buffer. -/
theorem co_buf (d : Dev nD) : iprop(∃ f : Buf (Elt F) (coL d), coL d ↦{fullShare} f) ⊢ (bigSep Finset.univ fun r => coAll d r : sProp 𝕄) := by
  rw [coAll_eq]; exact slots_split coK_disj coK_cover
theorem co_back (d : Dev nD) : (bigSep Finset.univ fun r => coAll d r : sProp 𝕄) ⊢ iprop(∃ f : Buf (Elt F) (coL d), coL d ↦{fullShare} f) := by
  rw [coAll_eq]; exact slots_join coK_disj coK_cover

/-! ## The result at the end -/

/-- Every block of the result finished. -/
def Final (d : Dev nD) (f : oM.view.ty.Contents (Elt F)) : Prop := ∀ r s, oread d r s f = finv I r s d

theorem OInv.final {d : Dev nD} {D : Finset (Fin 8)} {f : oM.view.ty.Contents (Elt F)} (h : OInv I d D (fun _ => 15) f) : Final I d f := fun r s => by
  have hd : done 15 s = true := by revert s; decide
  have := h r s
  rw [hd] at this
  exact this

theorem block_of : ∀ (d : Dev nD) (a : Fin 8) (b : Fin 4), ∃ r s, chunk d (offs (cw r) s) = a.val ∧ (qt r).val = b.val := by decide +kernel
/-- The blocks are all of the result, -/
theorem oblk_cover (d : Dev nD) (y : S4096x2048.Idx) : ∃ r s, y ∈ (oblk r d s).set := by
  have h0 : (y 0).val < 4096 := (y 0).isLt
  have h1 : (y 1).val < 2048 := (y 1).isLt
  obtain ⟨r, s, e1, e2⟩ := block_of d ⟨(y 0).val / 512, by omega⟩ ⟨(y 1).val / 512, by omega⟩
  refine ⟨r, s, mem_oblk.mpr ?_⟩
  rw [e1, e2]
  show (512 * ((y 0).val / 512) ≤ _ ∧ _ < 512 * ((y 0).val / 512) + 512) ∧ (512 * ((y 1).val / 512) ≤ _ ∧ _ < 512 * ((y 1).val / 512) + 512)
  omega
/-- so they leave one contents. -/
theorem Final.unique {d : Dev nD} {f g : oM.view.ty.Contents (Elt F)} (hf : Final I d f) (hg : Final I d g) : f = g := by
  funext y
  obtain ⟨r, s, hy⟩ := oblk_cover d y
  obtain ⟨i, hi⟩ := (oblk r d s).toLoadRect.exists_idx_of_mem hy
  subst hi
  exact congrFun ((hf r s).trans (hg r s).symm) i

/-- The result of a device. -/
def outAt (d : Dev nD) : oM.view.ty.Contents (Elt F) :=
  haveI : Nonempty (oM.view.ty.Contents (Elt F)) := ⟨fun _ => sxv I d⟩
  Classical.epsilon (Final I d)
theorem outAt_eq {d : Dev nD} {f : oM.view.ty.Contents (Elt F)} (hf : Final I d f) : f = outAt I d :=
  hf.unique I (Classical.epsilon_spec (p := Final I d) ⟨f, hf⟩)

end Cert.RingProof

end
-- ==== Proof.Launch.lean ====
/-
  The launch: the start's element handed out, the body run on every device, and what the machine holds at the end.
-/
module

public import proofs.«01_k».proof.Proof.Bufs
public import proofs.«01_k».proof.Proof.Gen.KernelIdeal.Launch
public import proofs.«01_k».proof.Proof.Gen.KernelIdeal.Points
public import Idealize.ShloMosaic.Lib.Pipeline.CollectiveSegs

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The operands and the run's data -/

/-- The operands as the machine holds them. -/
def inpOf : Inp F where
  x d := (win0_0.blk t0_0).view.read (Elt F) (m ((d : Thread nD τ).loc main_arg0))
  w d := (win0_1.blk t0_0).view.read (Elt F) (m ((d : Thread nD τ).loc main_arg1))
  sx d := (win0_2.blk t0_0).view.read (Elt F) (m ((d : Thread nD τ).loc main_arg2))
  sw d := (win0_3.blk t0_0).view.read (Elt F) (m ((d : Thread nD τ).loc main_arg3))

/-- What a device holds from the start, besides its buffers. -/
def begins (d : Dev nD) : sProp 𝕄 := iprop(invs (inpOf m) ∗ levAts L lv ∗ startTok d)
/-- The scratch buffers. -/
def scr (d : Dev nD) : sProp 𝕄 := iprop((∃ f : Buf (Elt F) ((d : Thread nD τ).loc cc0_scratch0), ((d : Thread nD τ).loc cc0_scratch0) ↦{fullShare} f)
    ∗ (∃ f : Buf (Elt F) (stL d), stL d ↦{fullShare} f) ∗ ∃ f : Buf (Elt F) (coL d), coL d ↦{fullShare} f)
def Φ₀ (d : Dev nD) : sProp 𝕄 := iprop(begins m d ∗ scr d)
def Φ₁ (d : Dev nD) : sProp 𝕄 := iprop(semVal (cell d kBar) 0
    ∗ ((bigSep Finset.univ fun r : Fin 4 => iprop((bigSep Finset.univ fun u : Fin 14 => semVal (cell d (kSnd r u)) 0)
      ∗ (bigSep Finset.univ fun u : Fin 14 => semVal (cell d (kRcv r u)) 0) ∗ semVal (cell d (kCrd r)) 0)) ∗ scr d))

def dats (_ : Fin 1) (c : Dev nD) : Dat τ (Elt F) ℕ ℕ UU ℕ cfg0 c where
  A w := m ((cfg0.win w).arr.view.loc (c : Thread nD τ))
  after w _ := match w with
    | ⟨0, _⟩ => (inpOf m).x c
    | ⟨1, _⟩ => (inpOf m).w c
    | ⟨2, _⟩ => (inpOf m).sx c
    | ⟨3, _⟩ => (inpOf m).sw c
    | ⟨4, _⟩ => outAt (inpOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body -/

theorem bigSep_W (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ
theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ ((c : Thread nD τ).loc b) ↦{fullShare} f) := by
  unfold owns
  simp only [Memref.view_whole, View.read_whole, View.set_whole]

/-- A staging buffer with given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem scr_open (d : Dev nD) : (scr d : sProp 𝕄) ⊢ iprop(bAny d ∗ (bigSep Finset.univ fun r => stAll d r) ∗ bigSep Finset.univ fun r => coAll d r) := by
  unfold scr bAny
  iintro ⟨Hb, Hs, Hc⟩
  isplitl [Hb]; · iexact Hb
  isplitl [Hs]; · iapply (st_buf d) $$ Hs
  iapply (co_buf d) $$ Hc
theorem scr_close (d : Dev nD) : iprop(bHas (inpOf m) d ∗ (bigSep Finset.univ fun r => stAll d r) ∗ bigSep Finset.univ fun r => coAll d r)
    ⊢ (scr d : sProp 𝕄) := by
  unfold scr bHas
  iintro ⟨⟨%g, -, Hb⟩, Hs, Hc⟩
  isplitl [Hb]; · iexists g; iexact Hb
  isplitl [Hs]; · iapply (st_back d) $$ Hs
  iapply (co_back d) $$ Hc

theorem rings_end (d : Dev nD) : (bigSep Finset.univ fun r => RS d r 15 : sProp 𝕄)
    ⊢ iprop((bigSep Finset.univ fun r : Fin 4 => iprop((bigSep Finset.univ fun u : Fin 14 => semVal (cell d (kSnd r u)) 0)
      ∗ (bigSep Finset.univ fun u : Fin 14 => semVal (cell d (kRcv r u)) 0) ∗ semVal (cell d (kCrd r)) 0))
      ∗ (bigSep Finset.univ fun r => stAll d r) ∗ bigSep Finset.univ fun r => coAll d r) := by
  rw [← bigSep_sep', ← bigSep_sep']
  refine bigSep_mono fun r _ => (RS_elim d r).trans ?_
  rw [bigSep_sep']
  iintro ⟨⟨H1, H2⟩, H3, H4, H5⟩
  isplitl [H1 H2 H3]
  · isplitl [H1]; · iexact H1
    isplitl [H2]; · iexact H2
    iexact H3
  isplitl [H4]; · iexact H4
  iexact H5

/-- The start is what the program runs from, at some names. -/
theorem before_intro (d : Dev nD) : iprop(Φ₀ m d ∗ ow d (O₀ d)) ⊢ (iprop(∃ K J, before (inpOf m) K J d) : sProp 𝕄) := by
  unfold Φ₀ begins invs slotInvs startTok rdrs
  iintro ⟨⟨⟨⟨⟨%K, HK⟩, Hr, ⟨%J, HJ⟩⟩, Hl, Hb, Hrt, Hrd⟩, Hs⟩, Ho⟩
  ihave Hs := (scr_open d) $$ Hs
  icases Hs with ⟨Hba, Hst, Hco⟩
  iexists K
  iexists J
  unfold before ctx
  isplitl [HK Hr HJ Hl]
  · isplitl [HK]; · iexact HK
    isplitl [Hr]; · iexact Hr
    isplitl [HJ]; · iexact HJ
    iexact Hl
  isplitl [Ho]; · iexact Ho
  isplitl [Hb]; · iexact Hb
  isplitl [Hrt]; · iexact Hrt
  isplitl [Hco Hrd]
  · iapply (Entails.of_eq (bigSep_sep' Finset.univ (fun r => (coAll d r : sProp 𝕄))
      (fun r : Fin 4 => bigSep Finset.univ fun j : Fin 3 => Release.readerAt ES ((d, (r, j)) : SK) 0)).symm)
    isplitl [Hco]; · iexact Hco
    iexact Hrd
  isplitl [Hst]; · iexact Hst
  iexact Hba

theorem after_elim (d : Dev nD) : (after (inpOf m) d : sProp 𝕄) ⊢ iprop(ow d 0 ∗ Φ₁ d) := by
  unfold after Φ₁
  iintro ⟨Ho, Hb, HR, Hw⟩
  ihave HR := (rings_end d) $$ HR
  icases HR with ⟨Hs, Hst, Hco⟩
  isplitl [Ho]; · iexact Ho
  isplitl [Hb]; · iexact Hb
  isplitl [Hs]; · iexact Hs
  iapply (scr_close m d)
  isplitl [Hw]; · iexact Hw
  isplitl [Hst]; · iexact Hst
  iexact Hco

/-- The body between the operands and the result. -/
theorem body_run (d : Dev nD) (f : Buf (Elt F) (oM.view.loc (d : Thread nD τ))) (Kt : PUnit → sProp 𝕄) :
    iprop((Φ₀ m d ∗ ow d (O₀ d)) ∗ opnds (inpOf m) d ∗ oAt d f)
      ⊢ iprop((((ow d 0 ∗ Φ₁ d) ∗ opnds (inpOf m) d ∗ oAt d (outAt (inpOf m) d)) -∗ Kt ⟨⟩) -∗ wpd d (prog d) Kt) := by
  iintro ⟨HΦ, Hop, Hf⟩ Hk
  ihave H := (before_intro m d) $$ HΦ
  icases H with ⟨%K, %J, H⟩
  iapply (run_prog (inpOf m) K J d Kt) $$ [H Hop Hf]
  · isplitl [H]; · iexact H
    isplitl [Hop]; · iexact Hop
    unfold oSt
    iexists f
    isplitr; · ipureintro; exact OInv.init (inpOf m) d f
    iexact Hf
  unfold oSt
  iintro ⟨Ha, Hop, %D, %g, %hg, Hg⟩
  ihave Hg := (Entails.of_eq (congrArg (fun g => (oAt d g : sProp 𝕄)) (outAt_eq (inpOf m) (hg.final (inpOf m))))) $$ Hg
  iapply Hk
  isplitl [Ha]; · iapply (after_elim m d) $$ Ha
  isplitl [Hop]; · iexact Hop
  iexact Hg

def bodyPre (c : Dev nD) : sProp 𝕄 :=
  iprop(Φ₀ m c ∗ (dats m 0 c).owesAt (0 : ℕ) t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
def bodyPost (c : Dev nD) : sProp 𝕄 :=
  iprop(Φ₁ c ∗ (dats m 0 c).owesAt (0 : ℕ) t0_0.succ
    ∗ stg c cc0_stg0_0 ((inpOf m).x c) ∗ stg c cc0_stg1_0 ((inpOf m).w c) ∗ stg c cc0_stg2_0 ((inpOf m).sx c) ∗ stg c cc0_stg3_0 ((inpOf m).sw c)
    ∗ stg c cc0_stg4_0 (outAt (inpOf m) c))

theorem before_x (c : Dev nD) (d) : (dats m 0 c).before (0 : Fin 5) t0_0 d = (inpOf m).x c := by unfold Dat.before; rw [if_pos (fetch0_0 t0_0)]; rfl
theorem before_w (c : Dev nD) (d) : (dats m 0 c).before (1 : Fin 5) t0_0 d = (inpOf m).w c := by unfold Dat.before; rw [if_pos (fetch0_1 t0_0)]; rfl
theorem before_sx (c : Dev nD) (d) : (dats m 0 c).before (2 : Fin 5) t0_0 d = (inpOf m).sx c := by unfold Dat.before; rw [if_pos (fetch0_2 t0_0)]; rfl
theorem before_sw (c : Dev nD) (d) : (dats m 0 c).before (3 : Fin 5) t0_0 d = (inpOf m).sw c := by unfold Dat.before; rw [if_pos (fetch0_3 t0_0)]; rfl

theorem owes_start (c : Dev nD) : ((dats m 0 c).owesAt (0 : ℕ) t0_0.castSucc : sProp 𝕄) ⊢ ow c (O₀ c) := by
  unfold Dat.owesAt Pipeline.owesWithin ow
  iintro ⟨%W, -, H⟩
  iexists W
  iexact H
theorem owes_end (c : Dev nD) : (ow c 0 : sProp 𝕄) ⊢ (dats m 0 c).owesAt (0 : ℕ) t0_0.succ := by
  unfold Dat.owesAt Pipeline.owesWithin ow
  iintro ⟨%W, H⟩
  iexists W
  isplitr; · ipureintro; exact fun _ _ => Or.inl trivial
  iexact H

theorem opnds_intro (c : Dev nD) :
    iprop((∃ d, stg c cc0_stg0_0 ((dats m 0 c).before (0 : Fin 5) t0_0 d)) ∗ (∃ d, stg c cc0_stg1_0 ((dats m 0 c).before (1 : Fin 5) t0_0 d))
      ∗ (∃ d, stg c cc0_stg2_0 ((dats m 0 c).before (2 : Fin 5) t0_0 d)) ∗ (∃ d, stg c cc0_stg3_0 ((dats m 0 c).before (3 : Fin 5) t0_0 d)))
      ⊢ (opnds (inpOf m) c : sProp 𝕄) := by
  simp only [before_x, before_w, before_sx, before_sw]
  unfold opnds
  iintro ⟨⟨%d0, %f0, %h0, H0⟩, ⟨%d1, %f1, %h1, H1⟩, ⟨%d2, %f2, %h2, H2⟩, %d3, %f3, %h3, H3⟩
  subst h0 h1 h2 h3
  isplitl [H0]; · iexact H0
  isplitl [H1]; · iexact H1
  isplitl [H2]; · iexact H2
  iexact H3
theorem opnds_elim (c : Dev nD) : (opnds (inpOf m) c : sProp 𝕄)
    ⊢ iprop(stg c cc0_stg0_0 ((inpOf m).x c) ∗ stg c cc0_stg1_0 ((inpOf m).w c) ∗ stg c cc0_stg2_0 ((inpOf m).sx c) ∗ stg c cc0_stg3_0 ((inpOf m).sw c)) := by
  unfold opnds
  iintro ⟨H0, H1, H2, H3⟩
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  iexists _; isplitr; · (ipureintro; rfl)
  iexact H3

theorem sound_body (c : Dev nD) :
    bodyPre m c ⊢ wp frame (wpE (defs₀ (F := F)) 𝒱₀ c none) Set.univ (bodyAt0 t0_0) (fun _ => bodyPost m c) := by
  rw [body_eq]
  simp only [Prog.lift, Prog.bind_op, Prog.bind_ret, Prog.pure_eq_ret, wp_deviceId]
  unfold bodyPre bodyPost
  iintro ⟨HΦ, Ho, H0, H1, H2, H3, %d4, %f4, -, H4⟩
  ihave Hop := (opnds_intro m c) $$ [H0 H1 H2 H3]
  · isplitl [H0]; · iexact H0
    isplitl [H1]; · iexact H1
    isplitl [H2]; · iexact H2
    iexact H3
  ihave Ho := (owes_start m c) $$ Ho
  iapply (body_run m c f4 _) $$ [HΦ Ho Hop H4]
  · isplitl [HΦ Ho]
    · isplitl [HΦ]; · iexact HΦ
      iexact Ho
    isplitl [Hop]; · iexact Hop
    iexact H4
  iintro ⟨⟨Ho, HΦ⟩, Hop, Hf⟩
  ihave Ho := (owes_end m c) $$ Ho
  ihave Hop := (opnds_elim m c) $$ Hop
  icases Hop with ⟨H0, H1, H2, H3⟩
  isplitl [HΦ]; · iexact HΦ
  isplitl [Ho]; · iexact Ho
  isplitl [H0]; · iexact H0
  isplitl [H1]; · iexact H1
  isplitl [H2]; · iexact H2
  isplitl [H3]; · iexact H3
  iexists _
  isplitr; · ipureintro; rfl
  iexact Hf

theorem defs_eq : (defs₀ (F := F)) Proc.tc 0 (t0_0, cfg0.slots t0_0) = bodyAt0 t0_0 := rfl

set_option maxRecDepth 16000 in
theorem body_obligation (c : Dev nD) : BodyObligation (dats (F := F) m 0 c) (defs₀ (F := F)) 𝒱₀ (0 : ℕ) Set.univ := fun t => by
  rw [fin_N0 t]
  rw [bigSep_W, bigSep_W]
  simp only [owns_whole_eq]
  refine (show _ ⊢ bodyPre m c from ?_).trans ((sound_body m c).trans ?_)
  · exact .rfl
  · rw [defs_eq]
    generalize bodyAt0 (F := F) t0_0 = p
    refine Entails.of_eq (congrArg (wp _ _ _ _) (funext fun _ => ?_))
    unfold bodyPost
    rfl

/-! ## The launch's sides -/

set_option maxRecDepth 8000 in
theorem ownSemFacts : Pipeline.OwnSemFacts cfg0.spec osem := by decide +kernel

theorem share_eq (c : Dev nD) (w : Fin cfg0.W) : (dats m 0 c).share w = fullShare := by unfold Dat.share; split <;> rfl

def u₀ : UU := (initOf (Pipeline.cells cfgs cellOf_inj) (Pipeline.launchToks cfgs cellOf_inj), uc)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inpOf m) c)
      ⊢ (|={Set.univ}=> iprop(begins m c ∗ emp) : sProp 𝕄) := by
  unfold G' begins
  iintro ⟨-, Hl, Hcr, -, Hi, Ho⟩
  ihave Hs := (startTok_intro c) $$ [Ho Hcr]
  · isplitl [Ho]; · iexact Ho
    iexact Hcr
  imodintro
  isplitl
  · isplitl [Hi]; · iexact Hi
    isplitl [Hl]; · iexact Hl
    iexact Hs
  · iempintro

theorem phi0_intro (c : Dev nD) :
    iprop(begins m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem ownSems_eq (c : Dev nD) : (Pipeline.ownSems0 osem c : sProp 𝕄)
    = bigSep Finset.univ fun r : Fin 4 => iprop((bigSep Finset.univ fun u : Fin 14 => semVal (cell c (kSnd r u)) 0)
      ∗ (bigSep Finset.univ fun u : Fin 14 => semVal (cell c (kRcv r u)) 0) ∗ semVal (cell c (kCrd r)) 0) := by
  unfold Pipeline.ownSems0
  rw [bigSep_sep', bigSep_sep', bigSep_univ_sum, bigSep_univ_sum, bigSep_univ_prod, bigSep_univ_prod]
  rfl

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems_eq, unscoped_eq]
  unfold Φ₁ scr
  exact .rfl

theorem O₀_above (c : Dev nD) : Above 0 (O₀ c) := by
  unfold O₀
  exact Above.add (Above.add ((owAll_start c).mono (by omega)) (Above.tally _ _ _ (by omega) (by omega))) (Above.tally _ _ _ (by omega) (by omega))

theorem waits (c : Dev nD) : (levAts L lv : sProp 𝕄) ⊢ Pipeline.cellsWaits cfgs (dats m) (0 : ℕ) 0 c :=
  Pipeline.cellsWaits_intro cfgs (dats m) (0 : ℕ) 0 c fun w s t => mayWait c _ (by decide) (by
    rcases t with ⟨_ | _, ht⟩
    · exact O₀_above c
    · exact Above.zero 0)

/-! ## The run -/

def finalA (c : Dev nD) (w : Fin cfg0.W) : Buf (Elt F) ((cfg0.win w).arr.view.loc (c : Thread nD τ)) := (dats m 0 c).arrAt w cfg0.N

/-- Every window's array at its final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 30000 in
/-- From any memory with zero counters, over any float values: every weakly fair execution terminates, and at the end every
    device's arrays hold their final contents and every counter is zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := G (inpOf m)) (G' := G' (inpOf m)) (u₀ := u₀)
    (hu₀ := by
      unfold u₀
      iintro Hu
      ihave H := (ownU_pair _ _) $$ Hu
      icases H with ⟨HP, HX⟩
      imod (fund_all (inpOf m)) $$ HX with HG
      imodintro
      isplitl [HP] <;> iassumption)
    (hglob := glob (inpOf m))
    (hA := fun _ _ => rfl) (hpf := fun _ k => k.elim0)
    (X := begins m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were, -/
theorem final_in (c : Dev nD) (w : Fin cfg0.W) (h : (cfg0.win w).isOut = false) : finalA m c w = m ((cfg0.win w).arr.view.loc (c : Thread nD τ)) :=
  (dats (F := F) m 0 c).arrAt_in w h _

end Cert.RingProof

end
-- ==== Proof.Frames.lean ====
/-
  The frames of the kernel: every execution ends with the arguments unchanged and every semaphore at zero.
-/
module

public import proofs.«01_k».proof.Defs
public import proofs.«01_k».proof.Proof.Launch
public import proofs.«01_k».proof.Proof.Gen.Kernel
public import proofs.«01_k».proof.Proof.Gen.KernelIdeal

@[expose] public section

noncomputable section

namespace Cert.RingProof

open Cert.KernelIdeal Cert.KernelIdeal.Gen
open Idealize.ShloMosaic Idealize.ShloMosaic.TcCoe
open Idealize.SL.Sem

variable {F : FTy → Type} [FloatOps F] (m : (ℓ : Loc nD τ sig) → Buf (Elt F) ℓ)

/-- At the end every device's arguments are as they were. -/
theorem kept {r : PUnit × MemSt nD τ sig (Elt F)} (h : QC m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  ⟨(h c 0).trans (final_in m c 0 rfl), (h c 1).trans (final_in m c 1 rfl), (h c 2).trans (final_in m c 2 rfl), (h c 3).trans (final_in m c 3 rfl)⟩

/-- The frame of the kernel at the ideal values. -/
theorem frame_ideal : Cert.quiescent_KernelIdeal := fun m ρ _ =>
  (θ_run Cert.KernelIdeal.defs _ _).mono (fun _ h => ⟨kept m h.1, h.2⟩) (run_main (F := Ideal) m ρ)

/-- What the frame says of the printed kernel at any float values. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

theorem frame_at (F : FTy → Type) [FloatOps F] : FrameAt F := fun m ρ _ =>
  (θ_run defs _ _).mono (fun _ h => ⟨kept m h.1, h.2⟩) (run_main (F := F) m ρ)

/-- The two printed kernels are one text, so the frame of the one is the frame of the other. -/
theorem frame_same : Cert.quiescent_Kernel = FrameAt Bits := by chain_rfl

/-- The frame of the kernel as it runs: the same run at the machine's own floats. -/
theorem frame_kernel : Cert.quiescent_Kernel := frame_same ▸ frame_at Bits

end Cert.RingProof

end
-- ==== Proof.Algebra.lean ====
/-
  What the rings compute over the extended reals: every block of the result is the sum over the devices of their products,
  scaled and cut at zero.
-/
module

public import proofs.«01_k».proof.Proof.Bufs
public import Idealize.ShloMosaic.Lib.MatmulPlain
public import Idealize.ShloMosaic.Lib.Pipeline.Value
public import Idealize.ShloMosaic.Lib.ValueLayout
public import Idealize.ShloMosaic.PureOps.Ideal.Laws

@[expose] public section

noncomputable section

namespace Cert.RingProof

open Cert.KernelIdeal Cert.KernelIdeal.Gen
open Idealize.ShloMosaic Idealize.ShloMosaic.TcCoe Idealize.ShloMosaic.ValueIdx
open scoped BigOperators

variable (I : Inp Ideal)

/-- Device `d`'s part of an element of the product. -/
def term (d : Dev nD) (p : Fin 4096) (q : Fin 2048) : EReal := ∑ k : Fin 512, I.x d (ix2 p k) * I.w d (ix2 k q)

/-- The rows and columns of the whole result that an element of a ring's block is at. -/
def rowAt (d : Dev nD) (o : Fin 8) (i : Fin 512) : Fin 4096 := ⟨512 * chunk d o + i.val, by have := chunk_lt d o; omega⟩
def colAt (r : Fin 4) (j : Fin 512) : Fin 2048 := ⟨512 * (qt r).val + j.val, by have := (qt r).isLt; omega⟩

theorem rowAt_congr {d d' : Dev nD} {o o' : Fin 8} (h : chunk d o = chunk d' o') (i : Fin 512) : rowAt d o i = rowAt d' o' i :=
  Fin.ext (by show 512 * chunk d o + i.val = 512 * chunk d' o' + i.val; rw [h])

theorem wb_apply (d : Dev nD) (k : Fin 512) (q : Fin 2048) : wb I d (ix2 k q) = I.w d (ix2 k q) := by
  unfold wb k0_pay2
  rw [shapeCast_self, shapeCast_self]
  show I.w d _ = _
  refine congrArg (I.w d) ?_
  funext a
  apply Fin.ext
  fin_cases a
  · show 0 + 1 * k.val = k.val; omega
  · show 0 + 1 * q.val = q.val; omega

theorem xr_apply (d : Dev nD) (b : Bool) (s : Fin 8) (i k : Fin 512) :
    xM.view.readAt (Elt Ideal) (xrow b d s).toLoadRect (I.x d) (ix2 i k) = I.x d (ix2 (rowAt d (offs b s) i) k) := by
  show I.x d _ = _
  refine congrArg (I.x d) ?_
  funext a
  apply Fin.ext
  have h : ∀ a, k0_off1 d (kw b s.val) a = (![512 * chunk d (offs b s), 0] : Fin 2 → ℕ) a := fun a => congrFun (xOff_eq b d s) a
  fin_cases a
  · show k0_off1 d (kw b s.val) 0 + 1 * i.val = 512 * chunk d (offs b s) + i.val
    rw [h]; show 512 * chunk d (offs b s) + 1 * i.val = _; omega
  · show k0_off1 d (kw b s.val) 1 + 1 * k.val = k.val
    rw [h]; show 0 + 1 * k.val = _; omega

theorem rows_apply (d : Dev nD) (b : Bool) (s : Fin 8) (i : Fin 512) (q : Fin 2048) :
    rows I d b s (ix2 i q) = term I d (rowAt d (offs b s) i) q := by
  unfold rows k0_pay3 term
  rw [shapeCast_self]
  show FloatOps.matmul (DotDims.plain 512 512 2048) none _ _ (constant S512x2048 .f32 0x00000000#32) (ix2 i q) = _
  rw [Ideal.matmul_plain_apply]
  show Ideal.ofBits .f32 0x00000000#32 + _ = _
  rw [Ideal.ofBits_zero_f32, zero_add]
  refine Finset.sum_congr rfl fun k _ => ?_
  rw [wb_apply]
  exact congrArg (· * _) (xr_apply I d b s i k)

theorem part_apply (r : Fin 4) (s : Fin 8) (d : Dev nD) (i j : Fin 512) :
    part I r s d (ix2 i j) = term I d (rowAt d (offs (cw r) s) i) (colAt r j) := by
  unfold part
  rw [← rows_apply]
  refine congrArg (rows I d (cw r) s) ?_
  funext a
  apply Fin.ext
  fin_cases a
  · show 0 + 1 * i.val = i.val; omega
  · show 512 * (qt r).val + 1 * j.val = 512 * (qt r).val + j.val; omega

/-! ## The payloads over the extended reals -/

theorem sq_pay4 (v : Vec Ideal S512x512 .f32) : sq (k0_pay4 v) = v := by
  unfold sq k0_pay4
  rw [shapeCast_shapeCast, shapeCast_self]
  rfl
theorem sq_pay10 (v : Vec Ideal S512x512 .f32) (c : Vec Ideal S1x1x512x512 .bf16) (i : S512x512.Idx) : sq (k0_pay10 v c) i = v i + sq c i := by
  unfold sq k0_pay10
  rw [shapeCast_shapeCast, shapeCast_self]
  rfl
theorem pay52_apply (v : Vec Ideal S512x512 .f32) (c : Vec Ideal S1x1x512x512 .bf16) (a b : Elt Ideal .f32) (i : S512x512.Idx) :
    k0_pay52 v c a b i = max ((v i + sq c i) * (a * b)) 0 := by
  unfold sq k0_pay52
  rw [shapeCast_self]
  show max _ (Ideal.ofBits .f32 0x00000000#32) = _
  rw [Ideal.ofBits_zero_f32]
  rfl
theorem sq_pay53 (v : Vec Ideal S512x512 .f32) (c : Vec Ideal S1x1x512x512 .bf16) (a b : Elt Ideal .f32) : sq (k0_pay53 v c a b) = k0_pay52 v c a b := by
  unfold sq k0_pay53
  rw [shapeCast_shapeCast]
  rfl
theorem pay1_sq (c : Vec Ideal S1x1x512x512 .bf16) : k0_pay1 c = sq c := rfl

/-! ## Round the ring -/

/-- The device `n` places behind on a ring. -/
def back (r : Fin 4) (n : ℕ) (d : Dev nD) : Dev nD := (prv r)^[n] d

theorem back_succ (r : Fin 4) (n : ℕ) (d : Dev nD) : back r (n + 1) d = back r n (prv r d) := Function.iterate_succ_apply _ _ _
theorem back_inj : ∀ (r : Fin 4) (d : Dev nD) (n n' : Fin 8), back r n.val d = back r n'.val d → n = n' := by decide +kernel
theorem chunk_prv : ∀ (r : Fin 4) (d : Dev nD) (s : Fin 8), chunk (prv r d) (offs (cw r) s) = chunk d (offs (cw r) (s + 1)) := by decide +kernel

/-- Eight places round a ring are all the devices. -/
theorem sum_back (r : Fin 4) (d : Dev nD) (f : Dev nD → EReal) : ∑ n ∈ Finset.range 8, f (back r n d) = ∑ e, f e := by
  rw [Finset.sum_range]
  refine Fintype.sum_bijective (fun n : Fin 8 => back r n.val d) ?_ _ _ fun _ => rfl
  exact (Fintype.bijective_iff_injective_and_card _).mpr ⟨fun n n' h => back_inj r d n n' h, rfl⟩

/-- The partial sums: what hop `u` carries is the sum over the sender and the `u` devices behind it. -/
theorem hv_partial (r : Fin 4) (i j : Fin 512) : ∀ (u : ℕ) (hu : u < 7) (d : Dev nD),
    sq (hv I r u d) (ix2 i j)
      = ∑ n ∈ Finset.range (u + 1), term I (back r n d) (rowAt d (offs (cw r) ⟨u, by omega⟩) i) (colAt r j)
  | 0, _, d => by
    rw [hv, sq_pay4, part_apply, Finset.sum_range_one]
    rfl
  | u + 1, hu, d => by
    rw [hv_add I r d ⟨u, by omega⟩, sq_pay10, part_apply, hv_partial r i j u (by omega) (prv r d)]
    refine (add_comm _ _).trans (Eq.trans ?_ (Finset.sum_range_succ' _ (u + 1)).symm)
    refine congrArg₂ (fun y z : EReal => y + z) (Finset.sum_congr rfl fun n _ => ?_) rfl
    rw [back_succ, rowAt_congr (chunk_prv r d ⟨u, by omega⟩)]
    refine congrArg (fun o => term I (back r n (prv r d)) (rowAt d (offs (cw r) o) i) (colAt r j)) (Fin.ext ?_)
    show (u + 1) % 8 = u + 1
    omega

/-- An element of the result. -/
def val (a b : EReal) (p : Fin 4096) (q : Fin 2048) : EReal := max ((∑ d, term I d p q) * (a * b)) 0

/-- The finished block of the device that finishes it. -/
theorem fin_own (r : Fin 4) (d : Dev nD) (a b : EReal) (i j : Fin 512) :
    k0_pay52 (part I r 7 d) (hv I r 6 (prv r d)) a b (ix2 i j) = val I a b (rowAt d (offs (cw r) 7) i) (colAt r j) := by
  rw [pay52_apply, part_apply, hv_partial I r i j 6 (by omega) (prv r d)]
  unfold val
  rw [← sum_back r d]
  refine congrArg (fun z => max (z * (a * b)) 0) ((add_comm _ _).trans (Eq.trans ?_ (Finset.sum_range_succ' _ 7).symm))
  refine congrArg₂ (fun y z : EReal => y + z) (Finset.sum_congr rfl fun n _ => ?_) rfl
  rw [back_succ, rowAt_congr (chunk_prv r d ⟨6, by omega⟩)]
  rfl

variable {a b : EReal} (hsx : ∀ d, sxv I d = a) (hsw : ∀ d, swv I d = b)
include hsx hsw

/-- What the later hops carry: the block finished so many places behind. -/
theorem hv_done (r : Fin 4) (i j : Fin 512) : ∀ (u : ℕ) (d : Dev nD),
    sq (hv I r (u + 7) d) (ix2 i j) = val I a b (rowAt d (offs (cw r) (7 + Fin.ofNat 8 u)) i) (colAt r j)
  | 0, d => by
    rw [Nat.zero_add, hv_fin, sq_pay53, fin_own, hsx, hsw]
    rfl
  | u + 1, d => by
    rw [show u + 1 + 7 = u + 8 from rfl, hv_fwd, hv_done r i j u (prv r d), rowAt_congr (chunk_prv r d _)]
    refine congrArg (fun o => val I a b (rowAt d (offs (cw r) o) i) _) (Fin.ext ?_)
    show ((7 + u % 8) % 8 + 1) % 8 = (7 + (u + 1) % 8) % 8
    omega

theorem finv_apply (r : Fin 4) (s : Fin 8) (d : Dev nD) (i j : Fin 512) :
    finv I r s d (ix2 i j) = val I a b (rowAt d (offs (cw r) s) i) (colAt r j) := by
  unfold finv
  split
  · next h => subst h; rw [fin_own, hsx, hsw]
  · next h =>
    rw [pay1_sq, hv_done I hsx hsw r i j s.val (prv r d), rowAt_congr (chunk_prv r d _)]
    refine congrArg (fun o => val I a b (rowAt d (offs (cw r) o) i) _) (Fin.ext ?_)
    show ((7 + s.val % 8) % 8 + 1) % 8 = s.val
    omega

/-- So the result is these elements, on every device. -/
theorem outAt_val (d : Dev nD) : outAt I d = (fun y : S4096x2048.Idx => val I a b (y 0) (y 1) : Vec Ideal S4096x2048 .f32) := by
  refine (outAt_eq I (d := d) ?_).symm
  intro r s
  funext y
  obtain ⟨i, j, rfl⟩ : ∃ (i j : Fin 512), y = ix2 i j := ⟨y 0, y 1, eq_ix2 y⟩
  rw [finv_apply I hsx hsw]
  have h : ∀ x, blkOff r d (kw (cw r) s.val) x = (![512 * chunk d (offs (cw r) s), 512 * (qt r).val] : Fin 2 → ℕ) x := fun x => congrFun (blkOff_eq r d s) x
  show val I a b _ _ = _
  refine congrArg₂ (val I a b) (Fin.ext ?_) (Fin.ext ?_)
  · show blkOff r d (kw (cw r) s.val) 0 + 1 * i.val = 512 * chunk d (offs (cw r) s) + i.val
    rw [h]; show 512 * chunk d (offs (cw r) s) + 1 * i.val = _; omega
  · show blkOff r d (kw (cw r) s.val) 1 + 1 * j.val = 512 * (qt r).val + j.val
    rw [h]; show 512 * (qt r).val + 1 * j.val = _; omega

end Cert.RingProof

end
-- ==== Proof.Result.lean ====
/-
  The result against the reference: over the extended reals the sum of the devices' products is the product of the whole
  arrays, so every device ends with the reference's result.
-/
module

public import proofs.«01_k».proof.Defs
public import proofs.«01_k».proof.Proof.Frames
public import proofs.«01_k».proof.Proof.Algebra
public import proofs.«01_k».proof.Proof.Gen.ReferenceIdeal
public import proofs.«01_k».proof.Proof.Gen.ReferenceIdeal.Value
public import Idealize.ShloMosaic.Lib.Layout

@[expose] public section

noncomputable section

namespace Cert.RingProof

open Cert.KernelIdeal Cert.KernelIdeal.Gen
open Idealize.ShloMosaic Idealize.ShloMosaic.TcCoe Idealize.ShloMosaic.ValueIdx
open Idealize.SL.Sem
open scoped BigOperators

/-! ## Windows that are whole arrays -/

section Whole

variable {F : FTy → Type} [FloatOps F] (m : (ℓ : Loc nD τ sig) → Buf (Elt F) ℓ)

theorem start0 : win0_0.index t0_0 (0 : Fin 2) = 0 ∧ win0_0.index t0_0 (1 : Fin 2) = 0 := by decide +kernel
theorem start1 : win0_1.index t0_0 (0 : Fin 2) = 0 ∧ win0_1.index t0_0 (1 : Fin 2) = 0 := by decide +kernel
theorem start2 : win0_2.index t0_0 (0 : Fin 1) = 0 := by decide +kernel
theorem start3 : win0_3.index t0_0 (0 : Fin 1) = 0 := by decide +kernel
theorem start4 : ∀ t : Fin cfg0.N, win0_4.index t (0 : Fin 2) = 0 ∧ win0_4.index t (1 : Fin 2) = 0 :=
  (by decide +kernel : ∀ t : Fin grid0.N, _)

theorem inp_x (c : Dev nD) : (inpOf m).x c = m ((c : Thread nD τ).loc main_arg0) := by
  obtain ⟨h0, h1⟩ := start0
  refine funext fun i : S4096x512.Idx => congrArg (m ((c : Thread nD τ).loc main_arg0)) (funext fun a => Fin.ext ?_)
  match a with
  | ⟨0, _⟩ => show win0_0.index t0_0 (0 : Fin 2) * 4096 + 1 * (i 0).val = (i 0).val; omega
  | ⟨1, _⟩ => show win0_0.index t0_0 (1 : Fin 2) * 512 + 1 * (i 1).val = (i 1).val; omega
theorem inp_w (c : Dev nD) : (inpOf m).w c = m ((c : Thread nD τ).loc main_arg1) := by
  obtain ⟨h0, h1⟩ := start1
  refine funext fun i : S512x2048.Idx => congrArg (m ((c : Thread nD τ).loc main_arg1)) (funext fun a => Fin.ext ?_)
  match a with
  | ⟨0, _⟩ => show win0_1.index t0_0 (0 : Fin 2) * 512 + 1 * (i 0).val = (i 0).val; omega
  | ⟨1, _⟩ => show win0_1.index t0_0 (1 : Fin 2) * 2048 + 1 * (i 1).val = (i 1).val; omega
theorem inp_sx (c : Dev nD) : (inpOf m).sx c = m ((c : Thread nD τ).loc main_arg2) := by
  have h0 := start2
  refine funext fun i : S1.Idx => congrArg (m ((c : Thread nD τ).loc main_arg2)) (funext fun a => Fin.ext ?_)
  match a with
  | ⟨0, _⟩ => show win0_2.index t0_0 (0 : Fin 1) * 1 + 1 * (i 0).val = (i 0).val; omega
theorem inp_sw (c : Dev nD) : (inpOf m).sw c = m ((c : Thread nD τ).loc main_arg3) := by
  have h0 := start3
  refine funext fun i : S1.Idx => congrArg (m ((c : Thread nD τ).loc main_arg3)) (funext fun a => Fin.ext ?_)
  match a with
  | ⟨0, _⟩ => show win0_3.index t0_0 (0 : Fin 1) * 1 + 1 * (i 0).val = (i 0).val; omega

theorem out_emb (t : Fin cfg0.N) (j : S4096x2048.Idx) : ((cfg0.win 4).blk t).view.emb j = j := by
  obtain ⟨h0, h1⟩ := start4 t
  funext a; apply Fin.ext
  match a with
  | ⟨0, _⟩ => show win0_4.index t (0 : Fin 2) * 4096 + 1 * (j 0).val = (j 0).val; omega
  | ⟨1, _⟩ => show win0_4.index t (1 : Fin 2) * 2048 + 1 * (j 1).val = (j 1).val; omega

/-- A device's result array ends holding what its body left. -/
theorem final_out (c : Dev nD) : finalA m c 4 = outAt (inpOf m) c := by
  refine (dats m 0 c).arrAt_eq_of_cover 4 (outAt (inpOf m) c) (fun t _ => ?_) fun i => ⟨t0_0, flush0_4 _, ?_⟩
  · funext j
    show outAt (inpOf m) c j = outAt (inpOf m) c (((cfg0.win 4).blk t).view.emb j)
    rw [out_emb]
  · have h := ((cfg0.win 4).blk t0_0).view.emb_mem_set i
    rwa [out_emb] at h

end Whole

/-! ## The two products -/

variable (X : Vec Ideal ⟨2, ![4096, 4096]⟩ .fp8e4m3) (W : Vec Ideal ⟨2, ![4096, 2048]⟩ .fp8e4m3) (sx sw : Vec Ideal S1 .f32)

/-- The one index of a scale. -/
abbrev one0 : S1.Idx := Shape.Idx.first (numel1_S1.symm ▸ Nat.one_pos)

theorem scale_idx (i j : S1.Idx) : i = j := funext fun a => Fin.ext (by
  have hi := (i a).isLt; have hj := (j a).isLt
  have h : S1.size a = 1 := by fin_cases a; rfl
  omega)

/-- The devices' parts add up to the whole contraction. -/
theorem sum_terms (I : Inp Ideal) (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W) (p : Fin 4096) (q : Fin 2048) :
    ∑ d, term I d p q = ∑ k : Fin 4096, X (ix2 p k) * W (ix2 k q) := by
  refine Eq.trans ?_ (Equiv.sum_comp (finProdFinEquiv : Fin 8 × Fin 512 ≃ Fin 4096) fun k => X (ix2 p k) * W (ix2 k q))
  rw [Fintype.sum_prod_type]
  refine Finset.sum_congr rfl fun d _ => Finset.sum_congr rfl fun k _ => ?_
  rw [hx, hw, Layout.block_apply, Layout.block_apply]
  refine congrArg₂ (fun y z : EReal => y * z) (congrArg X (funext fun a => Fin.ext ?_)) (congrArg W (funext fun a => Fin.ext ?_))
  · match a with
    | ⟨0, _⟩ => rfl
    | ⟨1, _⟩ => show d.val * 512 + k.val = k.val + 512 * d.val; omega
  · match a with
    | ⟨0, _⟩ => show d.val * 512 + k.val = k.val + 512 * d.val; omega
    | ⟨1, _⟩ => rfl

/-- The reference's result, element by element. -/
theorem ref_apply (p : Fin 4096) (q : Fin 2048) :
    Cert.ReferenceIdeal.Value.G4 (F := Ideal) X W sx sw (ix2 p q)
      = max ((∑ k : Fin 4096, X (ix2 p k) * W (ix2 k q)) * (sx one0 * sw one0)) 0 := by
  unfold Cert.ReferenceIdeal.Value.G4 Cert.ReferenceIdeal.Gen.k0_pay1
  show max ((FloatOps.matmul (DotDims.plain 4096 4096 2048) none _ _ (constant _ .f32 0x00000000#32) (ix2 p q)) * _)
    (Ideal.ofBits .f32 0x00000000#32) = _
  rw [Ideal.matmul_plain_apply, Ideal.ofBits_zero_f32]
  show max ((Ideal.ofBits .f32 0x00000000#32 + _) * (sx _ * sw _)) 0 = _
  rw [Ideal.ofBits_zero_f32, zero_add]
  exact congrArg (fun s : EReal => max (_ * s) 0)
    (congrArg₂ (fun y z : EReal => y * z) (congrArg sx (scale_idx _ _)) (congrArg sw (scale_idx _ _)))

/-- From operands that are the devices' parts of whole arrays, every device's result is the reference's. -/
theorem out_ref (I : Inp Ideal) (hx : ∀ c, I.x c = Layout.block ⟨2, ![4096, 512]⟩ ⟨2, ![4096, 4096]⟩ 1 8 c X)
    (hw : ∀ c, I.w c = Layout.block ⟨2, ![512, 2048]⟩ ⟨2, ![4096, 2048]⟩ 0 8 c W) (hsx : ∀ c, I.sx c = sx) (hsw : ∀ c, I.sw c = sw)
    (c : Dev nD) : outAt I c = Cert.ReferenceIdeal.Value.G4 (F := Ideal) X W sx sw := by
  rw [outAt_val I (a := sx one0) (b := sw one0)
    (fun d => by show I.sx d _ = _; rw [hsx]; exact congrArg sx (scale_idx _ _))
    (fun d => by show I.sw d _ = _; rw [hsw]; exact congrArg sw (scale_idx _ _)) c]
  funext y
  obtain ⟨p, q, rfl⟩ : ∃ (p : Fin 4096) (q : Fin 2048), y = ix2 p q := ⟨y 0, y 1, eq_ix2 y⟩
  rw [ref_apply]
  show val I _ _ p q = _
  unfold val
  rw [sum_terms X W I hx hw]

/-- The kernel and the reference compute the same function over the extended reals. -/
theorem algebraic : Cert.algebraic_KernelIdeal_ReferenceIdeal := fun m g m' g' _ h =>
  ⟨_, (θ_run Cert.KernelIdeal.defs _ _).mono (fun r hr c =>
      ⟨(hr.1 c 4).trans ((final_out m c).trans (out_ref _ _ _ _ (inpOf m)
        (fun d => (inp_x m d).trans (h d).1) (fun d => (inp_w m d).trans (h d).2.1)
        (fun d => (inp_sx m d).trans (h d).2.2.1) (fun d => (inp_sw m d).trans (h d).2.2.2) c)), kept m hr.1 c⟩)
      (run_main (F := Ideal) m g),
    (θ_run Cert.ReferenceIdeal.defs _ _).mono (fun r hr => hr 0) (Cert.ReferenceIdeal.Value.run m' g')⟩

end Cert.RingProof

end
-- ==== Proof.lean ====
/-
  The claims of the ring kernel and their proofs. The run of the kernel is proved once, in Launch.lean; the frames are in
  Frames.lean, the comparison with the reference in Result.lean.
-/
module

public import proofs.«01_k».proof.Proof.Gen.ReferenceIdeal.Value
public import proofs.«01_k».proof.Defs
public import proofs.«01_k».proof.Proof.Frames
public import proofs.«01_k».proof.Proof.Result
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- The frame of the reference. -/
theorem frame_reference : Cert.quiescent_ReferenceIdeal := fun m ρ _ => Cert.ReferenceIdeal.Gen.frame m ρ

/-- Everything that is claimed. -/
theorem claim : Cert.Claim := ⟨Cert.Kernel.Gen.facts, Cert.KernelIdeal.Gen.facts, Cert.ReferenceIdeal.Gen.facts,
  Cert.RingProof.frame_kernel, Cert.RingProof.frame_ideal, frame_reference, trivial,
  Cert.RingProof.algebraic⟩

end Cert.Proof

end
